-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S16384x100 : Shape := ⟨2, ![16384, 100]⟩
abbrev S100000x128 : Shape := ⟨2, ![100000, 128]⟩
abbrev S_ : Shape := ⟨0, ![]⟩

class Facts : Prop where
  bcast_S_S16384x100 : S_.BroadcastsInDim S16384x100 (![] : Fin 0 → Fin S16384x100.rank)
  reducesTo_S16384x100_S_d0_1 : S16384x100.ReducesTo [0, 1] S_
  h_S_ : 0 < S_.numel

variable [Facts]

def fn {F : FTy → Type} [FloatOps F] (main_arg0 : IVec S16384x100 32) (main_arg1 : FVec F S100000x128 .f32) : IVec S_ 1 :=
  let main_c : IVec S_ 32 := constantI S_ 32 0#32
  let main_v0 : IVec S16384x100 32 := broadcastInDim S16384x100 ![] bcast_S_S16384x100 main_c
  let main_v1 : IVec S16384x100 1 := cmpi .sge main_arg0 main_v0
  let main_c_0 : IVec S_ 32 := constantI S_ 32 100000#32
  let main_v2 : IVec S16384x100 32 := broadcastInDim S16384x100 ![] bcast_S_S16384x100 main_c_0
  let main_v3 : IVec S16384x100 1 := cmpi .slt main_arg0 main_v2
  let main_v4 : IVec S16384x100 1 := andi main_v1 main_v3
  let main_c_1 : IVec S_ 1 := constantI S_ 1 1#1
  let main_v5 : IVec S_ 1 := (fun x v => Host.reduce IntOp.andi x v reducesTo_S16384x100_S_d0_1 h_S_) main_v4 main_c_1
  main_v5
-- ==== Kernel.lean ====
abbrev S16384x100 : Shape := ⟨2, ![16384, 100]⟩
abbrev S100000x128 : Shape := ⟨2, ![100000, 128]⟩
abbrev S16384x100x128 : Shape := ⟨3, ![16384, 100, 128]⟩
abbrev S128x100 : Shape := ⟨2, ![128, 100]⟩
abbrev S2x4x100x128 : Shape := ⟨4, ![2, 4, 100, 128]⟩
abbrev S_ : Shape := ⟨0, ![]⟩
abbrev S1x1x100x128 : Shape := ⟨4, ![1, 1, 100, 128]⟩
abbrev S100x128 : Shape := ⟨2, ![100, 128]⟩
abbrev S1x100 : Shape := ⟨2, ![1, 100]⟩
abbrev S100 : Shape := ⟨1, ![100]⟩
abbrev S1x4x100x128 : Shape := ⟨4, ![1, 4, 100, 128]⟩
abbrev S4x100x128 : Shape := ⟨3, ![4, 100, 128]⟩

abbrev nBuf : Table → Nat
  | .hbm => 3
  | .local .scVector .vmem => 2
  | _ => 0

abbrev bufTy : (tb : Table) → Fin (nBuf tb) → BufTy
  | .hbm, ⟨0, _⟩ => ⟨S16384x100, .i32⟩
  | .hbm, ⟨1, _⟩ => ⟨S100000x128, .f32⟩
  | .hbm, ⟨2, _⟩ => ⟨S16384x100x128, .f32⟩
  | .local .scVector .vmem, ⟨0, _⟩ => ⟨S128x100, .i32⟩
  | .local .scVector .vmem, ⟨1, _⟩ => ⟨S2x4x100x128, .f32⟩
  | _, _ => ⟨S16384x100, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_376_r0 : BitVec 32 := 0#32
  ![v3.toNat, 0]
@[reducible] def k0_t1_loop : Scf.Loop 32 :=
  let c0_i32_59 : BitVec 32 := 0#32
  let c16_i32 : BitVec 32 := 16#32
  let v44 : BitVec 32 := Scalar.addi c0_i32_59 c16_i32
  let c1_i32_60 : BitVec 32 := 1#32
  ⟨c0_i32_59, v44, c1_i32_60⟩
def k0_off2 (k0_t1 : Fin k0_t1_loop.trips) (c0_i32_377 : BitVec 32) (c0_i32_379 : BitVec 32) : Fin 2 → Nat :=
  let c0_i32_59 : BitVec 32 := 0#32
  let c1_i32_60 : BitVec 32 := 1#32
  let arg11 : BitVec 32 := Scf.iv c0_i32_59 c1_i32_60 k0_t1
  let c2_i32_376 : BitVec 32 := 2#32
  let v222 : BitVec 32 := Scalar.muli arg11 c2_i32_376
  let v223 : BitVec 32 := Scalar.addi v222 c0_i32_377
  let c4_i32_378 : BitVec 32 := 4#32
  let v224 : BitVec 32 := Scalar.muli v223 c4_i32_378
  let v225 : BitVec 32 := Scalar.addi v224 c0_i32_379
  let c0_i32_384 : BitVec 32 := 0#32
  ![v225.toNat, 0]
def k0_off3 (i : grid0.Coords) (k0_t1 : Fin k0_t1_loop.trips) (c0_i32_415 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let v3 : BitVec 32 := Scalar.addi v2 c0_i32
  let c0_i32_59 : BitVec 32 := 0#32
  let c1_i32_60 : BitVec 32 := 1#32
  let arg11 : BitVec 32 := Scf.iv c0_i32_59 c1_i32_60 k0_t1
  let c2_i32_414 : BitVec 32 := 2#32
  let v252 : BitVec 32 := Scalar.muli arg11 c2_i32_414
  let v253 : BitVec 32 := Scalar.addi v252 c0_i32_415
  let c4_i32_416 : BitVec 32 := 4#32
  let v254 : BitVec 32 := Scalar.muli v253 c4_i32_416
  let v255 : BitVec 32 := Scalar.addi v3 v254
  let c0_i32_421 : BitVec 32 := 0#32
  let c0_i32_422 : BitVec 32 := 0#32
  ![v255.toNat, 0, 0]
def k0_cond1 (k0_t1 : Fin k0_t1_loop.trips) : BitVec 1 :=
  let c0_i32_59 : BitVec 32 := 0#32
  let c1_i32_60 : BitVec 32 := 1#32
  let arg11 : BitVec 32 := Scf.iv c0_i32_59 c1_i32_60 k0_t1
  let c15_i32 : BitVec 32 := 15#32
  let v302 : BitVec 1 := Scalar.cmpi .slt arg11 c15_i32
  let v303 : BitVec 32 := Scalar.extui v302
  let c0_i32_480 : BitVec 32 := 0#32
  let v304 : BitVec 1 := Scalar.cmpi .ne v303 c0_i32_480
  v304

def k0_off4 (k0_t1 : Fin k0_t1_loop.trips) (c0_i32_496 : BitVec 32) (c0_i32_498 : BitVec 32) : Fin 2 → Nat :=
  let c0_i32_59 : BitVec 32 := 0#32
  let c1_i32_60 : BitVec 32 := 1#32
  let arg11 : BitVec 32 := Scf.iv c0_i32_59 c1_i32_60 k0_t1
  let c1_i32_494 : BitVec 32 := 1#32
  let v311 : BitVec 32 := Scalar.addi arg11 c1_i32_494
  let c2_i32_495 : BitVec 32 := 2#32
  let v312 : BitVec 32 := Scalar.muli v311 c2_i32_495
  let v313 : BitVec 32 := Scalar.addi v312 c0_i32_496
  let c4_i32_497 : BitVec 32 := 4#32
  let v314 : BitVec 32 := Scalar.muli v313 c4_i32_497
  let v315 : BitVec 32 := Scalar.addi v314 c0_i32_498
  let c0_i32_503 : BitVec 32 := 0#32
  ![v315.toNat, 0]
@[reducible] def k0_t2_loop : Scf.Loop 32 :=
  let c0_i32_154 : BitVec 32 := 0#32
  let c16_i32_155 : BitVec 32 := 16#32
  let v99 : BitVec 32 := Scalar.addi c0_i32_154 c16_i32_155
  let c1_i32_156 : BitVec 32 := 1#32
  ⟨c0_i32_154, v99, c1_i32_156⟩
def k0_off5 (k0_t2 : Fin k0_t2_loop.trips) (c0_i32_377 : BitVec 32) (c0_i32_379 : BitVec 32) : Fin 2 → Nat :=
  let c0_i32_154 : BitVec 32 := 0#32
  let c1_i32_156 : BitVec 32 := 1#32
  let arg11 : BitVec 32 := Scf.iv c0_i32_154 c1_i32_156 k0_t2
  let c2_i32_376 : BitVec 32 := 2#32
  let v222 : BitVec 32 := Scalar.muli arg11 c2_i32_376
  let v223 : BitVec 32 := Scalar.addi v222 c0_i32_377
  let c4_i32_378 : BitVec 32 := 4#32
  let v224 : BitVec 32 := Scalar.muli v223 c4_i32_378
  let v225 : BitVec 32 := Scalar.addi v224 c0_i32_379
  let c0_i32_384 : BitVec 32 := 0#32
  ![v225.toNat, 0]
def k0_off6 (i : grid0.Coords) (k0_t2 : Fin k0_t2_loop.trips) (c0_i32_415 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_88 : BitVec 32 := 512#32
  let v57 : BitVec 32 := Scalar.muli v1 c512_i32_88
  let c128_i32 : BitVec 32 := 128#32
  let v58 : BitVec 32 := Scalar.addi v57 c128_i32
  let c0_i32_154 : BitVec 32 := 0#32
  let c1_i32_156 : BitVec 32 := 1#32
  let arg11 : BitVec 32 := Scf.iv c0_i32_154 c1_i32_156 k0_t2
  let c2_i32_414 : BitVec 32 := 2#32
  let v252 : BitVec 32 := Scalar.muli arg11 c2_i32_414
  let v253 : BitVec 32 := Scalar.addi v252 c0_i32_415
  let c4_i32_416 : BitVec 32 := 4#32
  let v254 : BitVec 32 := Scalar.muli v253 c4_i32_416
  let v255 : BitVec 32 := Scalar.addi v58 v254
  let c0_i32_421 : BitVec 32 := 0#32
  let c0_i32_422 : BitVec 32 := 0#32
  ![v255.toNat, 0, 0]
def k0_cond2 (k0_t2 : Fin k0_t2_loop.trips) : BitVec 1 :=
  let c0_i32_154 : BitVec 32 := 0#32
  let c1_i32_156 : BitVec 32 := 1#32
  let arg11 : BitVec 32 := Scf.iv c0_i32_154 c1_i32_156 k0_t2
  let c15_i32 : BitVec 32 := 15#32
  let v302 : BitVec 1 := Scalar.cmpi .slt arg11 c15_i32
  let v303 : BitVec 32 := Scalar.extui v302
  let c0_i32_480 : BitVec 32 := 0#32
  let v304 : BitVec 1 := Scalar.cmpi .ne v303 c0_i32_480
  v304

def k0_off7 (k0_t2 : Fin k0_t2_loop.trips) (c0_i32_496 : BitVec 32) (c0_i32_498 : BitVec 32) : Fin 2 → Nat :=
  let c0_i32_154 : BitVec 32 := 0#32
  let c1_i32_156 : BitVec 32 := 1#32
  let arg11 : BitVec 32 := Scf.iv c0_i32_154 c1_i32_156 k0_t2
  let c1_i32_494 : BitVec 32 := 1#32
  let v311 : BitVec 32 := Scalar.addi arg11 c1_i32_494
  let c2_i32_495 : BitVec 32 := 2#32
  let v312 : BitVec 32 := Scalar.muli v311 c2_i32_495
  let v313 : BitVec 32 := Scalar.addi v312 c0_i32_496
  let c4_i32_497 : BitVec 32 := 4#32
  let v314 : BitVec 32 := Scalar.muli v313 c4_i32_497
  let v315 : BitVec 32 := Scalar.addi v314 c0_i32_498
  let c0_i32_503 : BitVec 32 := 0#32
  ![v315.toNat, 0]
@[reducible] def k0_t3_loop : Scf.Loop 32 :=
  let c0_i32_250 : BitVec 32 := 0#32
  let c16_i32_251 : BitVec 32 := 16#32
  let v154 : BitVec 32 := Scalar.addi c0_i32_250 c16_i32_251
  let c1_i32_252 : BitVec 32 := 1#32
  ⟨c0_i32_250, v154, c1_i32_252⟩
def k0_off8 (k0_t3 : Fin k0_t3_loop.trips) (c0_i32_377 : BitVec 32) (c0_i32_379 : BitVec 32) : Fin 2 → Nat :=
  let c0_i32_250 : BitVec 32 := 0#32
  let c1_i32_252 : BitVec 32 := 1#32
  let arg11 : BitVec 32 := Scf.iv c0_i32_250 c1_i32_252 k0_t3
  let c2_i32_376 : BitVec 32 := 2#32
  let v222 : BitVec 32 := Scalar.muli arg11 c2_i32_376
  let v223 : BitVec 32 := Scalar.addi v222 c0_i32_377
  let c4_i32_378 : BitVec 32 := 4#32
  let v224 : BitVec 32 := Scalar.muli v223 c4_i32_378
  let v225 : BitVec 32 := Scalar.addi v224 c0_i32_379
  let c0_i32_384 : BitVec 32 := 0#32
  ![v225.toNat, 0]
def k0_off9 (i : grid0.Coords) (k0_t3 : Fin k0_t3_loop.trips) (c0_i32_415 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_184 : BitVec 32 := 512#32
  let v112 : BitVec 32 := Scalar.muli v1 c512_i32_184
  let c256_i32 : BitVec 32 := 256#32
  let v113 : BitVec 32 := Scalar.addi v112 c256_i32
  let c0_i32_250 : BitVec 32 := 0#32
  let c1_i32_252 : BitVec 32 := 1#32
  let arg11 : BitVec 32 := Scf.iv c0_i32_250 c1_i32_252 k0_t3
  let c2_i32_414 : BitVec 32 := 2#32
  let v252 : BitVec 32 := Scalar.muli arg11 c2_i32_414
  let v253 : BitVec 32 := Scalar.addi v252 c0_i32_415
  let c4_i32_416 : BitVec 32 := 4#32
  let v254 : BitVec 32 := Scalar.muli v253 c4_i32_416
  let v255 : BitVec 32 := Scalar.addi v113 v254
  let c0_i32_421 : BitVec 32 := 0#32
  let c0_i32_422 : BitVec 32 := 0#32
  ![v255.toNat, 0, 0]
def k0_cond3 (k0_t3 : Fin k0_t3_loop.trips) : BitVec 1 :=
  let c0_i32_250 : BitVec 32 := 0#32
  let c1_i32_252 : BitVec 32 := 1#32
  let arg11 : BitVec 32 := Scf.iv c0_i32_250 c1_i32_252 k0_t3
  let c15_i32 : BitVec 32 := 15#32
  let v302 : BitVec 1 := Scalar.cmpi .slt arg11 c15_i32
  let v303 : BitVec 32 := Scalar.extui v302
  let c0_i32_480 : BitVec 32 := 0#32
  let v304 : BitVec 1 := Scalar.cmpi .ne v303 c0_i32_480
  v304

def k0_off10 (k0_t3 : Fin k0_t3_loop.trips) (c0_i32_496 : BitVec 32) (c0_i32_498 : BitVec 32) : Fin 2 → Nat :=
  let c0_i32_250 : BitVec 32 := 0#32
  let c1_i32_252 : BitVec 32 := 1#32
  let arg11 : BitVec 32 := Scf.iv c0_i32_250 c1_i32_252 k0_t3
  let c1_i32_494 : BitVec 32 := 1#32
  let v311 : BitVec 32 := Scalar.addi arg11 c1_i32_494
  let c2_i32_495 : BitVec 32 := 2#32
  let v312 : BitVec 32 := Scalar.muli v311 c2_i32_495
  let v313 : BitVec 32 := Scalar.addi v312 c0_i32_496
  let c4_i32_497 : BitVec 32 := 4#32
  let v314 : BitVec 32 := Scalar.muli v313 c4_i32_497
  let v315 : BitVec 32 := Scalar.addi v314 c0_i32_498
  let c0_i32_503 : BitVec 32 := 0#32
  ![v315.toNat, 0]
@[reducible] def k0_t4_loop : Scf.Loop 32 :=
  let c0_i32_346 : BitVec 32 := 0#32
  let c16_i32_347 : BitVec 32 := 16#32
  let v209 : BitVec 32 := Scalar.addi c0_i32_346 c16_i32_347
  let c1_i32_348 : BitVec 32 := 1#32
  ⟨c0_i32_346, v209, c1_i32_348⟩
def k0_off11 (k0_t4 : Fin k0_t4_loop.trips) (c0_i32_377 : BitVec 32) (c0_i32_379 : BitVec 32) : Fin 2 → Nat :=
  let c0_i32_346 : BitVec 32 := 0#32
  let c1_i32_348 : BitVec 32 := 1#32
  let arg11 : BitVec 32 := Scf.iv c0_i32_346 c1_i32_348 k0_t4
  let c2_i32_376 : BitVec 32 := 2#32
  let v222 : BitVec 32 := Scalar.muli arg11 c2_i32_376
  let v223 : BitVec 32 := Scalar.addi v222 c0_i32_377
  let c4_i32_378 : BitVec 32 := 4#32
  let v224 : BitVec 32 := Scalar.muli v223 c4_i32_378
  let v225 : BitVec 32 := Scalar.addi v224 c0_i32_379
  let c0_i32_384 : BitVec 32 := 0#32
  ![v225.toNat, 0]
def k0_off12 (i : grid0.Coords) (k0_t4 : Fin k0_t4_loop.trips) (c0_i32_415 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_280 : BitVec 32 := 512#32
  let v167 : BitVec 32 := Scalar.muli v1 c512_i32_280
  let c384_i32 : BitVec 32 := 384#32
  let v168 : BitVec 32 := Scalar.addi v167 c384_i32
  let c0_i32_346 : BitVec 32 := 0#32
  let c1_i32_348 : BitVec 32 := 1#32
  let arg11 : BitVec 32 := Scf.iv c0_i32_346 c1_i32_348 k0_t4
  let c2_i32_414 : BitVec 32 := 2#32
  let v252 : BitVec 32 := Scalar.muli arg11 c2_i32_414
  let v253 : BitVec 32 := Scalar.addi v252 c0_i32_415
  let c4_i32_416 : BitVec 32 := 4#32
  let v254 : BitVec 32 := Scalar.muli v253 c4_i32_416
  let v255 : BitVec 32 := Scalar.addi v168 v254
  let c0_i32_421 : BitVec 32 := 0#32
  let c0_i32_422 : BitVec 32 := 0#32
  ![v255.toNat, 0, 0]
def k0_cond4 (k0_t4 : Fin k0_t4_loop.trips) : BitVec 1 :=
  let c0_i32_346 : BitVec 32 := 0#32
  let c1_i32_348 : BitVec 32 := 1#32
  let arg11 : BitVec 32 := Scf.iv c0_i32_346 c1_i32_348 k0_t4
  let c15_i32 : BitVec 32 := 15#32
  let v302 : BitVec 1 := Scalar.cmpi .slt arg11 c15_i32
  let v303 : BitVec 32 := Scalar.extui v302
  let c0_i32_480 : BitVec 32 := 0#32
  let v304 : BitVec 1 := Scalar.cmpi .ne v303 c0_i32_480
  v304

def k0_off13 (k0_t4 : Fin k0_t4_loop.trips) (c0_i32_496 : BitVec 32) (c0_i32_498 : BitVec 32) : Fin 2 → Nat :=
  let c0_i32_346 : BitVec 32 := 0#32
  let c1_i32_348 : BitVec 32 := 1#32
  let arg11 : BitVec 32 := Scf.iv c0_i32_346 c1_i32_348 k0_t4
  let c1_i32_494 : BitVec 32 := 1#32
  let v311 : BitVec 32 := Scalar.addi arg11 c1_i32_494
  let c2_i32_495 : BitVec 32 := 2#32
  let v312 : BitVec 32 := Scalar.muli v311 c2_i32_495
  let v313 : BitVec 32 := Scalar.addi v312 c0_i32_496
  let c4_i32_497 : BitVec 32 := 4#32
  let v314 : BitVec 32 := Scalar.muli v313 c4_i32_497
  let v315 : BitVec 32 := Scalar.addi v314 c0_i32_498
  let c0_i32_503 : BitVec 32 := 0#32
  ![v315.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x100 : Shape := ⟨2, ![16384, 100]⟩
abbrev S100000x128 : Shape := ⟨2, ![100000, 128]⟩
abbrev S_ : Shape := ⟨0, ![]⟩
abbrev S16384x100x1 : Shape := ⟨3, ![16384, 100, 1]⟩
abbrev S1 : Shape := ⟨1, ![1]⟩
abbrev S1x1x1 : Shape := ⟨3, ![1, 1, 1]⟩
abbrev S16384x100x128 : Shape := ⟨3, ![16384, 100, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x100, .i32⟩
  | .hbm, ⟨1, _⟩ => ⟨S100000x128, .f32⟩
  | .hbm, ⟨2, _⟩ => ⟨S_, .i32⟩
  | .hbm, ⟨3, _⟩ => ⟨S16384x100, .i32⟩
  | .hbm, ⟨4, _⟩ => ⟨S16384x100, .i1⟩
  | .hbm, ⟨5, _⟩ => ⟨S_, .i32⟩
  | .hbm, ⟨6, _⟩ => ⟨S16384x100, .i32⟩
  | .hbm, ⟨7, _⟩ => ⟨S16384x100, .i32⟩
  | .hbm, ⟨8, _⟩ => ⟨S16384x100, .i32⟩
  | .hbm, ⟨9, _⟩ => ⟨S16384x100x1, .i32⟩
  | .hbm, ⟨10, _⟩ => ⟨S1, .i32⟩
  | .hbm, ⟨11, _⟩ => ⟨S_, .i32⟩
  | .hbm, ⟨12, _⟩ => ⟨S16384x100x1, .i32⟩
  | .hbm, ⟨13, _⟩ => ⟨S16384x100x1, .i1⟩
  | .hbm, ⟨14, _⟩ => ⟨S1x1x1, .i32⟩
  | .hbm, ⟨15, _⟩ => ⟨S16384x100x1, .i32⟩
  | .hbm, ⟨16, _⟩ => ⟨S16384x100x1, .i1⟩
  | .hbm, ⟨17, _⟩ => ⟨S16384x100x1, .i1⟩
  | .hbm, ⟨18, _⟩ => ⟨S_, .i1⟩
  | .hbm, ⟨19, _⟩ => ⟨S16384x100, .i1⟩
  | .hbm, ⟨20, _⟩ => ⟨S16384x100x128, .f32⟩
  | .hbm, ⟨21, _⟩ => ⟨S16384x100x128, .i1⟩
  | .hbm, ⟨22, _⟩ => ⟨S_, .f32⟩
  | .hbm, ⟨23, _⟩ => ⟨S16384x100x128, .f32⟩
  | .hbm, ⟨24, _⟩ => ⟨S16384x100x128, .f32⟩
  | _, _ => ⟨S16384x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.GatherBatch.lean ====
/-
  Several indirect gathers outstanding on ONE DMA cell. A tile starts `m` gathers one after another on the same
  semaphore and waits for each of them afterwards; only after the last wait may it use anything they wrote. Each gather
  moves `o` rows and every row pays the cell the same number of units, so the `m` gathers together are one counted batch
  (`Transfers.Batch`) of `m * o` row transfers. This file says what one row delivers (`rowDone`), how the issue of the
  next gather advances the batch by its `o` rows (`wp_gatherBatch`), and what a gather's rows are once all of them are
  in hand (`rowsDone_join`).
-/
module

public import Idealize.ShloMosaic.Lib.Batch
public import Idealize.ShloMosaic.Lib.SparseCore.Stream

@[expose] public section

noncomputable section

namespace Cert.Proof

open Idealize.ShloMosaic Idealize.ShloMosaic.Transfers Idealize.ShloMosaic.SparseCore
open Idealize.SL Idealize.SL.RA
open Idealize.SL.BI (sProp Storable bigSep bigSep_insert bigSep_mono bigSep_map)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

section Pending

variable (EC : UEmb Counters (MT nD τ sig Ix (Elt F) Name U Lvl))

/-- The issue rights from `k` on are those of the next `o` transfers and those from `k + o` on. -/
theorem pending_take {n : ℕ} (Φ : Fin n → sProp 𝕄) (k : ℕ) :
    ∀ (o : ℕ) (h : k + o ≤ n),
      bigSep (pending k) Φ = iprop(bigSep Finset.univ (fun j : Fin o => Φ ⟨k + j.val, by omega⟩) ∗ bigSep (pending (k + o)) Φ)
  | 0, h => by
    have he : (bigSep (Finset.univ : Finset (Fin 0)) (fun j => Φ ⟨k + j.val, by omega⟩) : sProp 𝕄) = iprop(emp) := BI.bigSep_empty
    have h1 : (bigSep (pending k) Φ : sProp 𝕄) ⊢ iprop(emp ∗ bigSep (pending k) Φ) := emp_sep.2
    have h2 : iprop(emp ∗ bigSep (pending k) Φ) ⊢ (bigSep (pending k) Φ : sProp 𝕄) := emp_sep.1
    rw [he]
    exact BI.Entails.antisymm h1 h2
  | o + 1, h => by
    have hs : (bigSep Finset.univ (fun j : Fin (o + 1) => Φ ⟨k + j.val, by omega⟩) : sProp 𝕄)
        = iprop(Φ ⟨k + o, by omega⟩ ∗ bigSep Finset.univ (fun j : Fin o => Φ ⟨k + j.val, by omega⟩)) := by
      rw [Fin.univ_castSuccEmb, Finset.cons_eq_insert, bigSep_insert (by simp), bigSep_map]; rfl
    rw [pending_take Φ k o (by omega), bigSep_pending_step Φ (k + o) (by omega), hs]
    have h1 (A B C : sProp 𝕄) : iprop(A ∗ B ∗ C) ⊢ iprop((B ∗ A) ∗ C) := by
      iintro ⟨Ha, Hb, Hc⟩
      isplitl [Ha Hb]; · isplitl [Hb] <;> iassumption
      iexact Hc
    have h2 (A B C : sProp 𝕄) : iprop((B ∗ A) ∗ C) ⊢ iprop(A ∗ B ∗ C) := by
      iintro ⟨⟨Hb, Ha⟩, Hc⟩
      isplitl [Ha]; · iexact Ha
      isplitl [Hb] <;> iassumption
    exact BI.Entails.antisymm (h1 _ _ _) (h2 _ _ _)

end Pending

section Gather

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}
variable (src : Memref sig c.2.kind sp s₀ e) (dst : Memref sig c.2.kind .vmem s e) (hg : s₀.Gathers a s)
variable (offs : Memref sig c.2.kind .vmem si .i32) (hn : si.numel = s.size hg.axis') (ho : 0 < s.size hg.axis')
variable (q qo : PosShare TreeShare) (fs : Buf (Elt F) (src.view.loc c)) (fd : Buf (Elt F) (dst.view.loc c)) (fo : Buf (Elt F) (offs.view.loc c))
variable (r : Fin (s.size hg.axis') → Fin (s₀.size hg.axis))

/-- The words of row `j`: the source's row `r j`. -/
def rowPay (j : Fin (s.size hg.axis')) : (s.rowShape hg.axis').Idx → Elt F e := fun i => src.view.read (Elt F) fs (hg.rowIdx (r j) i)

/-- What row `j` of a gather hands back once it has landed: the destination's row written with the source's row `r j`,
    the share of the list's entry that named it, and the row's piece of the source's share. -/
def rowDone (j : Fin (s.size hg.axis')) : sProp 𝕄 :=
  iprop(((dst.view.loc c ↦[(dst.view.slice (s.rowRect hg.axis' j)).set]{fullShare}
          ((dst.view.slice (s.rowRect hg.axis' j)).write (Elt F) fd (rowPay c src hg fs r j) Finset.univ))
      ∗ (offs.view.loc c ↦[{offs.view.emb (si.rowMajor.symm (j.cast hn.symm))}]{qo} fo))
    ∗ (src.view.loc c ↦[src.view.set]{pieceOf q _ ho j} fs))

instance rowDone_storable (j : Fin (s.size hg.axis')) :
    Storable (upEmb : UEmb _ 𝕄) (rowDone c src dst hg offs hn ho q qo fs fd fo r j) := by
  unfold rowDone; infer_instance

/-- All of a gather's rows together: the destination written with the gathered payload, the source's share and the
    list's share whole again. -/
theorem rowsDone_join :
    bigSep Finset.univ (rowDone (Ix := Ix) (Name := Name) (U := U) (Lvl := Lvl) c src dst hg offs hn ho q qo fs fd fo r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hbij : Function.Bijective fun j : Fin (s.size hg.axis') => si.rowMajor.symm (j.cast hn.symm) :=
    si.rowMajor.symm.bijective.comp (finCongr hn.symm).bijective
  unfold rowDone
  iintro H
  ihave H := bigSep_sep_out _ _ _ $$ H
  icases H with ⟨H, Hsrc⟩
  ihave H := bigSep_sep_out _ _ _ $$ H
  icases H with ⟨Hdst, Hlist⟩
  isplitl [Hdst]
  · iapply (pointsTo_rows_write c dst.view hg.axis' fd (rowPay c src hg fs r) (gatherPayload hg (src.view.read (Elt F) fs) r)
      fun j i => by unfold gatherPayload rowPay; rw [Shape.Gathers.idx_rowRect_emb]) $$ Hdst
  isplitl [Hsrc]; · iapply (Entails.of_eq (pointsTo_piecesOf src.view.set fs ho q).symm) $$ Hsrc
  iapply (Entails.of_eq (pointsTo_entries c offs.view _ hbij qo fo).symm) $$ Hlist

variable {src dst hg offs hn q qo fs fd fo}

/-- The issue of a batch's NEXT gather: the batch has `k₀` rows issued and the gather's `o` rows are its rows
    `k₀, …, k₀ + o - 1` (`hD`: each row's delivery is the batch's at that position). The tile hands in a share of the
    source's elements, the destination's outright, a share of the list's, every word of which names a row, and goes on
    with the batch at `k₀ + o`. -/
theorem wp_gatherBatch [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    (ι : Ix) (N : ℕ) (hN : ∀ j, (dst.slice (s.rowRect hg.axis' j) (s.stride_rowRect hg.axis' j)).view.dmaCredit = N)
    (hin : ∀ x, (offs.view.read (Elt F) fo x).toNat < s₀.size hg.axis)
    {n k₀ u : ℕ} {D : Fin n → sProp 𝕄} (hk : k₀ + s.size hg.axis' ≤ n) (hu : u ≤ k₀ * N)
    (hD : ∀ j : Fin (s.size hg.axis'),
      rowDone c src dst hg offs hn ho q qo fs fd fo (rows (offs.view.read (Elt F) fo) hn hin) j ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k₀ u)
      ⊢ iprop((Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let ρ : Fin (s.size hg.axis') → Fin (s₀.size hg.axis) := rows (offs.view.read (Elt F) fo) hn hin
  let rd : Fin (s.size hg.axis') → RowDma τ sig (Elt F) c.2 sem := fun j => gatherRow c src dst hg sem hsrc he hsp hr j (ρ j)
  have hagree : S.RowsAgree := by
    intro j x x' y y' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  have hbij : Function.Bijective S.entry := si.rowMajor.symm.bijective.comp (finCongr hn.symm).bijective
  unfold Batch
  iintro ⟨Hs, Hd, Ho, ⟨%γ, %γ₀, %κ, #Hinv, HI, H0, Hcred⟩⟩ Hk
  ihave HI := (Entails.of_eq (pending_take (fun t => count EC (γ t) 0) k₀ _ hk)) $$ HI
  icases HI with ⟨Hγ, HI⟩
  ihave Hd := (Entails.of_eq (pointsTo_rows c dst.view hg.axis' fullShare fd)) $$ Hd
  ihave Ho := (Entails.of_eq (pointsTo_entries c offs.view S.entry hbij qo fo)) $$ Ho
  ihave Hs := (Entails.of_eq (pointsTo_piecesOf src.view.set fs ho q)) $$ Hs
  iapply (wp_enqueueIndirectDma 𝒱 c bd Set.univ (qo := qo) (fo := fo) (rd := rd) ι (s.size hg.axis' * N) hagree hrd hsum) $$ [Hs Hd Ho Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (rowPay c src hg fs ρ j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (batch_creditUpdate EC (g := (c, SemLoc.dma sem)) (γ₀ := γ₀) ⟨k₀ + j.val, by omega⟩ (hD j))
        isplitr; · iexact Hinv
        iexact Hγj
    unfold Stream.res
    ihave H := bigSep_sep_in _ _ _ $$ [Hd Ho]; · isplitl [Hd] <;> iassumption
    ihave H := bigSep_sep_in _ _ _ $$ [H Hs]; · isplitl [H] <;> iassumption
    ihave H := bigSep_sep_in _ _ _ $$ [H Hγ]; · isplitl [H] <;> iassumption
    iapply (bigSep_mono_pers Finset.univ _ _ _ fun j _ => hrow j)
    isplitr; · iexact Hinv
    iexact H
  · iintro Hnew
    iapply Hk
    iexists γ, γ₀, κ
    isplitr; · iexact Hinv
    isplitl [HI]; · iexact HI
    isplitl [H0]; · iexact H0
    rw [show (k₀ + s.size hg.axis') * N - u = (k₀ * N - u) + s.size hg.axis' * N by rw [Nat.add_mul]; omega, ← tallyAt_add]
    icombine Hcred Hnew as H
    iexact H

end Gather

end Cert.Proof

end
-- ==== Proof.Program.lean ====
/-
  The printed tile program, read as four runs of ONE program. A tile's 512 rows are done 128 at a time; the four quarters
  do the same operations at their own offsets. `quarter` is that program, over the offsets it is run at; `kernel_eq` says
  that the printed program is `quarter` four times over.
-/
module

public import proofs.«01_k».proof.Proof.GatherBatch
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic Idealize.SL.Sem

variable {F : FTy → Type} [FloatOps F]

local notation "iV" => (Memref.whole Cert.KernelIdeal.main_arg0_scv : Memref Cert.KernelIdeal.sig Kind.scVector Space.hbm Cert.KernelIdeal.S16384x100 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x100x128 EltTy.f32)
local notation "sV" => (Memref.whole Cert.KernelIdeal.cc0_scratch0 : Memref Cert.KernelIdeal.sig Kind.scVector Space.vmem Cert.KernelIdeal.S128x100 EltTy.i32)
local notation "rV" => (Memref.whole Cert.KernelIdeal.cc0_scratch1 : Memref Cert.KernelIdeal.sig Kind.scVector Space.vmem Cert.KernelIdeal.S2x4x100x128 EltTy.f32)

/-! ## The pieces of memory a tile addresses -/

theorem win_inb (b : Fin 2) (j : Fin 4) : ∀ a, (![b.val, j.val, 0, 0] : Fin 4 → Nat) a + S1x1x100x128.size a ≤ S2x4x100x128.size a
  | 0 => by have := b.isLt; show b.val + 1 ≤ 2; omega
  | 1 => by have := j.isLt; show j.val + 1 ≤ 4; omega
  | 2 => Nat.le_refl 100
  | 3 => Nat.le_refl 128

theorem slot_inb (b : Fin 2) : ∀ a, (![b.val, 0, 0, 0] : Fin 4 → Nat) a + S1x4x100x128.size a ≤ S2x4x100x128.size a
  | 0 => by have := b.isLt; show b.val + 1 ≤ 2; omega
  | 1 => Nat.le_refl 4
  | 2 => Nat.le_refl 100
  | 3 => Nat.le_refl 128

theorem list_inb (p : Fin 32) (j : Fin 4) : ∀ a, (![4 * p.val + j.val, 0] : Fin 2 → Nat) a + S1x100.size a ≤ S128x100.size a
  | 0 => by have := p.isLt; have := j.isLt; show 4 * p.val + j.val + 1 ≤ 128; omega
  | 1 => Nat.le_refl 100

/-- The whole table, as a gather names it. -/
abbrev tabM : Memref sig .scVector .hbm S100000x128 .f32 :=
  (xV).slice (Rect.unit (s := S100000x128) ![0, 0] S100000x128.size inb_S100000x128_S100000x128_0_0) (fun _ => rfl)
/-- Window `j` of slot `b`: the 100 rows one gather fills. -/
abbrev winM (b : Fin 2) (j : Fin 4) : Memref sig .scVector .vmem S100x128 .f32 :=
  ((rV).slice (Rect.unit (s := S2x4x100x128) ![b.val, j.val, 0, 0] S1x1x100x128.size (win_inb b j)) (fun _ => rfl)).squeeze S100x128 squeezes_S1x1x100x128_S100x128
/-- Slot `b`: its four windows. -/
abbrev slotM (b : Fin 2) : Memref sig .scVector .vmem S4x100x128 .f32 :=
  ((rV).slice (Rect.unit (s := S2x4x100x128) ![b.val, 0, 0, 0] S1x4x100x128.size (slot_inb b)) (fun _ => rfl)).squeeze S4x100x128 squeezes_S1x4x100x128_S4x100x128
/-- The list of 100 row numbers at `off` in the tile's copy of the indices. -/
abbrev listM (off : Fin 2 → Nat) (h : ∀ a, off a + S1x100.size a ≤ S128x100.size a) : Memref sig .scVector .vmem S100 .i32 :=
  ((sV).slice (Rect.unit (s := S128x100) off S1x100.size h) (fun _ => rfl)).squeeze S100 squeezes_S1x100_S100
/-- The 128 rows of the indices at `off`. -/
abbrev idxM (off : Fin 2 → Nat) (h : ∀ a, off a + S128x100.size a ≤ S16384x100.size a) : Memref sig .scVector .hbm S128x100 .i32 :=
  (iV).slice (Rect.unit (s := S16384x100) off S128x100.size h) (fun _ => rfl)
/-- The four rows of the result at `off`. -/
abbrev outM (off : Fin 3 → Nat) (h : ∀ a, off a + S4x100x128.size a ≤ S16384x100x128.size a) : Memref sig .scVector .hbm S4x100x128 .f32 :=
  (oV).slice (Rect.unit (s := S16384x100x128) off S4x100x128.size h) (fun _ => rfl)

/-- The semaphore of slot `b`'s gathers, -/
def gsem : Fin 2 → DmaSem sig := fun | 0 => cc0_scratch2.sem | 1 => cc0_scratch3.sem
/-- and that of its store. -/
def osem : Fin 2 → DmaSem sig := fun | 0 => cc0_scratch4.sem | 1 => cc0_scratch5.sem

/-! ## The operations -/

/-- The processor that runs the tile's program. -/
abbrev procV (L : grid0.Coords) : Proc τ := .scVector ((L 0).castLE hcore0) ((L 1).castLE hsub0)
abbrev TileProg (F : FTy → Type) [FloatOps F] (L : grid0.Coords) (α : Type) : Type 1 := Prog (TpuEff nD τ sig (Elt F) Λ₀ (procV L)) α

variable (L : grid0.Coords)

/-- One gather: the rows the list at `off` names, into window `j` of slot `b`. -/
abbrev gatherOp (b : Fin 2) (j : Fin 4) (off : Fin 2 → Nat) (h : ∀ a, off a + S1x100.size a ≤ S128x100.size a) : TileProg F L PUnit :=
  SparseCore.enqueueIndirectGather rfl tabM (winM b j) gathers_S100000x128_S100x128 (listM off h) rfl (gsem b) (View.wordExact_bits rfl) rfl (Or.inl rfl)
/-- The wait for one gather into slot `b`. -/
abbrev gatherWait (b : Fin 2) (j : Fin 4) : TileProg F L PUnit :=
  SparseCore.waitIndirectGather (gsem b) tabM (winM b j) (View.wordExact_bits rfl) ((View.wordExact_bits rfl).reshape _ _)
/-- The store of slot `b` to the result's rows at `off`, -/
abbrev storeOp (b : Fin 2) (off : Fin 3 → Nat) (h : ∀ a, off a + S4x100x128.size a ≤ S16384x100x128.size a) : TileProg F L PUnit :=
  Prog.lift (.enqueueDma (slotM b) (.here (outM off h)) (.dma (osem b)) ((View.wordExact_bits rfl).reshape _ _) (View.wordExact_bits rfl) ⟨Or.inl rfl, trivial⟩)
/-- and the wait for it. -/
abbrev storeWait (b : Fin 2) : TileProg F L PUnit :=
  Prog.lift (.waitDma2 (osem b) (slotM b) (outM ![0, 0, 0] inb_S16384x100x128_S4x100x128_0_0_0) ((View.wordExact_bits rfl).reshape _ _) (View.wordExact_bits rfl))

/-- The four gathers that fill slot `b`, -/
def gathers (b : Fin 2) (off : Fin 4 → Fin 2 → Nat) (h : ∀ j a, off j a + S1x100.size a ≤ S128x100.size a) : TileProg F L PUnit := do
  gatherOp L b 0 (off 0) (h 0)
  gatherOp L b 1 (off 1) (h 1)
  gatherOp L b 2 (off 2) (h 2)
  gatherOp L b 3 (off 3) (h 3)
/-- and the four waits for them. -/
def gatherWaits (b : Fin 2) : TileProg F L PUnit := do
  gatherWait L b 0
  gatherWait L b 1
  gatherWait L b 2
  gatherWait L b 3

/-- The fetch of 128 rows of the indices, waited for at once. -/
def fetch (sem : DmaSem sig) (off : Fin 2 → Nat) (h : ∀ a, off a + S128x100.size a ≤ S16384x100.size a) : TileProg F L PUnit := do
  Prog.lift (.enqueueDma (idxM off h) (.here sV) (.dma sem) (View.wordExact_bits rfl) (Memref.isWhole_whole _).wordExact ⟨Or.inl rfl, trivial⟩)
  Prog.lift (.waitDma2 sem (idxM off h) sV (View.wordExact_bits rfl) (Memref.isWhole_whole _).wordExact)

section Quarter

variable (sem : DmaSem sig) (offF : Fin 2 → Nat) (hF : ∀ a, offF a + S128x100.size a ≤ S16384x100.size a)
variable (l : Scf.Loop 32) (hok : l.OK) (cond : Fin l.trips → BitVec 1)
variable (offS : Fin l.trips → Fin 2 → Fin 3 → Nat) (hS : ∀ t b a, offS t b a + S4x100x128.size a ≤ S16384x100x128.size a)
variable (offG : Fin l.trips → Fin 2 → Fin 4 → Fin 2 → Nat) (hG : ∀ t, cond t = 1#1 → ∀ b j a, offG t b j a + S1x100.size a ≤ S128x100.size a)

/-- One round: each slot's gathers waited for and the slot stored; then, but in the last round, each slot's store waited
    for and its next gathers started. -/
def round (t : Fin l.trips) : TileProg F L PUnit := do
  gatherWaits L 0
  storeOp L 0 (offS t 0) (hS t 0)
  gatherWaits L 1
  storeOp L 1 (offS t 1) (hS t 1)
  if h : cond t = 1#1 then do
    storeWait L 0
    gathers L 0 (offG t 0) (hG t h 0)
    storeWait L 1
    gathers L 1 (offG t 1) (hG t h 1)
  else
    pure ⟨⟩

/-- 128 rows of the tile's work: fetch their indices, fill both slots, sixteen rounds, the last two stores. -/
def quarter : TileProg F L PUnit := do
  fetch L sem offF hF
  gathers L 0 (fun j => ![4 * (0 : Fin 32).val + j.val, 0]) (list_inb 0)
  gathers L 1 (fun j => ![4 * (1 : Fin 32).val + j.val, 0]) (list_inb 1)
  Scf.Loop.for l hok ⟨⟩ fun t _ => round L l cond offS hS offG hG t
  storeWait L 0
  storeWait L 1

end Quarter

abbrev quarter1 : TileProg F L PUnit :=
  quarter L cc0_scoped0.sem (k0_off1 L (BitVec.ofNat 32 (128 * (0 : Fin 4).val))) (k0_off1_inb L 0) k0_t1_loop k0_t1_ok k0_cond1
    (fun t b => k0_off3 L t (BitVec.ofNat 32 b.val)) (fun t b => k0_off3_inb L t b)
    (fun t b j => k0_off4 t (BitVec.ofNat 32 b.val) (BitVec.ofNat 32 j.val)) (fun t h b j => k0_off4_inb t h b j)
abbrev quarter2 : TileProg F L PUnit :=
  quarter L cc0_scoped1.sem (k0_off1 L (BitVec.ofNat 32 (128 * (1 : Fin 4).val))) (k0_off1_inb L 1) k0_t2_loop k0_t2_ok k0_cond2
    (fun t b => k0_off6 L t (BitVec.ofNat 32 b.val)) (fun t b => k0_off6_inb L t b)
    (fun t b j => k0_off7 t (BitVec.ofNat 32 b.val) (BitVec.ofNat 32 j.val)) (fun t h b j => k0_off7_inb t h b j)
abbrev quarter3 : TileProg F L PUnit :=
  quarter L cc0_scoped2.sem (k0_off1 L (BitVec.ofNat 32 (128 * (2 : Fin 4).val))) (k0_off1_inb L 2) k0_t3_loop k0_t3_ok k0_cond3
    (fun t b => k0_off9 L t (BitVec.ofNat 32 b.val)) (fun t b => k0_off9_inb L t b)
    (fun t b j => k0_off10 t (BitVec.ofNat 32 b.val) (BitVec.ofNat 32 j.val)) (fun t h b j => k0_off10_inb t h b j)
abbrev quarter4 : TileProg F L PUnit :=
  quarter L cc0_scoped3.sem (k0_off1 L (BitVec.ofNat 32 (128 * (3 : Fin 4).val))) (k0_off1_inb L 3) k0_t4_loop k0_t4_ok k0_cond4
    (fun t b => k0_off12 L t (BitVec.ofNat 32 b.val)) (fun t b => k0_off12_inb L t b)
    (fun t b j => k0_off13 t (BitVec.ofNat 32 b.val) (BitVec.ofNat 32 j.val)) (fun t h b j => k0_off13_inb t h b j)

/-- The printed program at the tile's buffers. -/
abbrev kernelProg : TileProg F L PUnit :=
  cc0_k L iV (Memref.isWhole_whole _) xV (Memref.isWhole_whole _) oV (Memref.isWhole_whole _) sV (Memref.isWhole_whole _) rV (Memref.isWhole_whole _)
    cc0_scratch2 cc0_scratch3 cc0_scratch4 cc0_scratch5 cc0_scoped0 cc0_scoped1 cc0_scoped2 cc0_scoped3

set_option maxHeartbeats 4000000 in
set_option maxRecDepth 65536 in
theorem kernel_eq : kernelProg (F := F) L = (do quarter1 L; quarter2 L; quarter3 L; quarter4 L) := by
  unfold kernelProg quarter1 quarter2 quarter3 quarter4
  simp only [quarter, fetch, gathers, gatherWaits, gatherOp, gatherWait, storeOp, storeWait, round, bind_assoc, pure_bind]
  simp only [cc0_k_eq_skeleton, cc0_k_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_t1_body, k0_t2_body, k0_t3_body, k0_t4_body, bind_assoc, pure_bind]
  rfl

end Cert.Proof

end
-- ==== Proof.Geometry.lean ====
/-
  Where the pieces of memory a tile addresses lie, by coordinates: the element of the whole buffer an element of a piece
  is, and which elements of the buffer a piece holds.
-/
module

public import proofs.«01_k».proof.Proof.Program
public import Idealize.ShloMosaic.Lib.ValueIdxCore

@[expose] public section

noncomputable section

namespace Cert.Proof

open Cert.KernelIdeal Cert.KernelIdeal.Gen
open Idealize.ShloMosaic Idealize.ShloMosaic.ValueIdx

/-! ## Elements -/

theorem win_emb (b : Fin 2) (j : Fin 4) (x : S100x128.Idx) : (winM b j).view.emb x = (ix4 b j (x 0) (x 1) : S2x4x100x128.Idx) := by
  show (Rect.unit (s := S2x4x100x128) ![b.val, j.val, 0, 0] S1x1x100x128.size (win_inb b j)).emb (Shape.reshapeEquiv _ x) = _
  rw [Shape.reshapeEquiv_eq_of_rowMajor (y := (ix4 (0 : Fin 1) (0 : Fin 1) (x 0) (x 1) : S1x1x100x128.Idx)) _
    (by rw [Shape.rowMajor_val_four, Shape.rowMajor_val_two]; show ((0 * 1 + 0) * 100 + (x 0).val) * 128 + (x 1).val = (x 0).val * 128 + (x 1).val; omega)]
  funext a
  refine Fin.ext ?_
  rw [Rect.emb_apply]
  match a with
  | ⟨0, _⟩ => show b.val + 1 * 0 = b.val; omega
  | ⟨1, _⟩ => show j.val + 1 * 0 = j.val; omega
  | ⟨2, _⟩ => show 0 + 1 * (x 0).val = (x 0).val; omega
  | ⟨3, _⟩ => show 0 + 1 * (x 1).val = (x 1).val; omega

theorem slot_emb (b : Fin 2) (y : S4x100x128.Idx) : (slotM b).view.emb y = (ix4 b (y 0) (y 1) (y 2) : S2x4x100x128.Idx) := by
  show (Rect.unit (s := S2x4x100x128) ![b.val, 0, 0, 0] S1x4x100x128.size (slot_inb b)).emb (Shape.reshapeEquiv _ y) = _
  rw [Shape.reshapeEquiv_eq_of_rowMajor (y := (ix4 (0 : Fin 1) (y 0) (y 1) (y 2) : S1x4x100x128.Idx)) _
    (by rw [Shape.rowMajor_val_four, Shape.rowMajor_val_three]
        show ((0 * 4 + (y 0).val) * 100 + (y 1).val) * 128 + (y 2).val = ((y 0).val * 100 + (y 1).val) * 128 + (y 2).val; omega)]
  funext a
  refine Fin.ext ?_
  rw [Rect.emb_apply]
  match a with
  | ⟨0, _⟩ => show b.val + 1 * 0 = b.val; omega
  | ⟨1, _⟩ => show 0 + 1 * (y 0).val = (y 0).val; omega
  | ⟨2, _⟩ => show 0 + 1 * (y 1).val = (y 1).val; omega
  | ⟨3, _⟩ => show 0 + 1 * (y 2).val = (y 2).val; omega

theorem list_emb (r : Fin 128) (off : Fin 2 → Nat) (h) (hoff : off = ![r.val, 0]) (x : S100.Idx) :
    (listM off h).view.emb x = (ix2 r (x 0) : S128x100.Idx) := by
  subst hoff
  show (Rect.unit (s := S128x100) ![r.val, 0] S1x100.size h).emb (Shape.reshapeEquiv _ x) = _
  rw [Shape.reshapeEquiv_eq_of_rowMajor (y := (ix2 (0 : Fin 1) (x 0) : S1x100.Idx)) _
    (by rw [Shape.rowMajor_val_two, Shape.rowMajor_val_one]; show 0 * 100 + (x 0).val = (x 0).val; omega)]
  funext a
  refine Fin.ext ?_
  rw [Rect.emb_apply]
  match a with
  | ⟨0, _⟩ => show r.val + 1 * 0 = r.val; omega
  | ⟨1, _⟩ => show 0 + 1 * (x 0).val = (x 0).val; omega

theorem tab_emb (x : S100000x128.Idx) : tabM.view.emb x = x := by
  funext a
  refine Fin.ext ?_
  show ((Rect.unit (s := S100000x128) ![0, 0] S100000x128.size inb_S100000x128_S100000x128_0_0).emb x a).val = _
  rw [Rect.emb_apply]
  match a with
  | ⟨0, _⟩ => show 0 + 1 * (x 0).val = (x 0).val; omega
  | ⟨1, _⟩ => show 0 + 1 * (x 1).val = (x 1).val; omega

theorem idx_emb_val0 (r : Nat) (off : Fin 2 → Nat) (h) (hoff : off = ![r, 0]) (x : S128x100.Idx) :
    ((idxM off h).view.emb x (0 : Fin 2)).val = r + (x 0).val := by
  subst hoff
  show ((Rect.unit (s := S16384x100) ![r, 0] S128x100.size h).emb x (0 : Fin 2)).val = _
  rw [Rect.emb_apply]; show r + 1 * (x 0).val = _; omega

theorem idx_emb_val1 (r : Nat) (off : Fin 2 → Nat) (h) (hoff : off = ![r, 0]) (x : S128x100.Idx) :
    ((idxM off h).view.emb x (1 : Fin 2)).val = (x 1).val := by
  subst hoff
  show ((Rect.unit (s := S16384x100) ![r, 0] S128x100.size h).emb x (1 : Fin 2)).val = _
  rw [Rect.emb_apply]; show 0 + 1 * (x 1).val = _; omega

theorem out_emb_val (r : Nat) (off : Fin 3 → Nat) (h) (hoff : off = ![r, 0, 0]) (y : S4x100x128.Idx) (a : Fin 3) :
    ((outM off h).view.emb y a).val = (![r, 0, 0] : Fin 3 → Nat) a + (y a).val := by
  subst hoff
  show ((Rect.unit (s := S16384x100x128) ![r, 0, 0] S4x100x128.size h).emb y a).val = _
  rw [Rect.emb_apply]
  show (![r, 0, 0] : Fin 3 → Nat) a + 1 * (y a).val = _; omega

/-! ## Sets -/

theorem mem_win (b : Fin 2) (j : Fin 4) (i : S2x4x100x128.Idx) : i ∈ (winM b j).view.set ↔ i 0 = b ∧ i 1 = j := by
  have hs : (winM b j).view.set = (Rect.unit (s := S2x4x100x128) ![b.val, j.val, 0, 0] S1x1x100x128.size (win_inb b j)).set :=
    (View.set_reshape _ _).trans (View.set_slice_whole _ _)
  rw [hs]
  refine Rect.mem_set_unit.trans ⟨fun h => ⟨Fin.ext ?_, Fin.ext ?_⟩, fun ⟨h0, h1⟩ a => ?_⟩
  · have h0 : b.val ≤ (i 0).val ∧ (i 0).val < b.val + 1 := h 0
    omega
  · have h0 : j.val ≤ (i 1).val ∧ (i 1).val < j.val + 1 := h 1
    omega
  · match a with
    | ⟨0, _⟩ => subst h0; exact ⟨Nat.le_refl _, Nat.lt_succ_self _⟩
    | ⟨1, _⟩ => subst h1; exact ⟨Nat.le_refl _, Nat.lt_succ_self _⟩
    | ⟨2, _⟩ => exact ⟨Nat.zero_le _, by have : (i 2).val < 100 := (i 2).isLt; show (i 2).val < 0 + 100; omega⟩
    | ⟨3, _⟩ => exact ⟨Nat.zero_le _, by have : (i 3).val < 128 := (i 3).isLt; show (i 3).val < 0 + 128; omega⟩

theorem mem_slot (b : Fin 2) (i : S2x4x100x128.Idx) : i ∈ (slotM b).view.set ↔ i 0 = b := by
  have hs : (slotM b).view.set = (Rect.unit (s := S2x4x100x128) ![b.val, 0, 0, 0] S1x4x100x128.size (slot_inb b)).set :=
    (View.set_reshape _ _).trans (View.set_slice_whole _ _)
  rw [hs]
  refine Rect.mem_set_unit.trans ⟨fun h => Fin.ext ?_, fun h0 a => ?_⟩
  · have h0 : b.val ≤ (i 0).val ∧ (i 0).val < b.val + 1 := h 0
    omega
  · match a with
    | ⟨0, _⟩ => subst h0; exact ⟨Nat.le_refl _, Nat.lt_succ_self _⟩
    | ⟨1, _⟩ => exact ⟨Nat.zero_le _, by have : (i 1).val < 4 := (i 1).isLt; show (i 1).val < 0 + 4; omega⟩
    | ⟨2, _⟩ => exact ⟨Nat.zero_le _, by have : (i 2).val < 100 := (i 2).isLt; show (i 2).val < 0 + 100; omega⟩
    | ⟨3, _⟩ => exact ⟨Nat.zero_le _, by have : (i 3).val < 128 := (i 3).isLt; show (i 3).val < 0 + 128; omega⟩

theorem slot_eq_wins (b : Fin 2) : (slotM b).view.set = Finset.univ.biUnion fun j => (winM b j).view.set := by
  refine Finset.ext fun i => ?_
  rw [mem_slot, Finset.mem_biUnion]
  exact ⟨fun h => ⟨i 1, Finset.mem_univ _, (mem_win b _ i).2 ⟨h, rfl⟩⟩, fun ⟨j, _, h⟩ => ((mem_win b j i).1 h).1⟩

theorem wins_disjoint (b : Fin 2) : ∀ j ∈ (Finset.univ : Finset (Fin 4)), ∀ j' ∈ (Finset.univ : Finset (Fin 4)), j ≠ j' →
    Disjoint (winM b j).view.set (winM b j').view.set := fun j _ j' _ hne =>
  Finset.disjoint_left.mpr fun i h h' => hne (((mem_win b j i).1 h).2.symm.trans ((mem_win b j' i).1 h').2)

theorem univ_eq_slots : (Finset.univ : Finset S2x4x100x128.Idx) = Finset.univ.biUnion fun b : Fin 2 => (slotM b).view.set := by
  refine Finset.ext fun i => ⟨fun _ => Finset.mem_biUnion.mpr ⟨i 0, Finset.mem_univ _, (mem_slot _ i).2 rfl⟩, fun _ => Finset.mem_univ _⟩

theorem slots_disjoint : ∀ b ∈ (Finset.univ : Finset (Fin 2)), ∀ b' ∈ (Finset.univ : Finset (Fin 2)), b ≠ b' →
    Disjoint (slotM b).view.set (slotM b').view.set := fun b _ b' _ hne =>
  Finset.disjoint_left.mpr fun i h h' => hne (((mem_slot b i).1 h).symm.trans ((mem_slot b' i).1 h'))

theorem tab_set : tabM.view.set = Finset.univ :=
  Finset.eq_univ_iff_forall.mpr fun x => Finset.mem_map.mpr ⟨x, Finset.mem_univ x, tab_emb x⟩

/-- The elements of the result in its rows `4 * q` to `4 * q + 3`. -/
def blkSet (q : Fin 4096) : Finset S16384x100x128.Idx := Finset.univ.filter fun i => (i 0).val / 4 = q.val

theorem mem_blk (q : Fin 4096) (i : S16384x100x128.Idx) : i ∈ blkSet q ↔ (i 0).val / 4 = q.val := by
  simp only [blkSet, Finset.mem_filter, Finset.mem_univ, true_and]

theorem out_set (q : Fin 4096) (off : Fin 3 → Nat) (h) (hoff : off = ![4 * q.val, 0, 0]) : (outM off h).view.set = blkSet q := by
  subst hoff
  refine Finset.ext fun i => ?_
  show i ∈ ((View.whole main_v0_scv).slice (Rect.unit (s := S16384x100x128) ![4 * q.val, 0, 0] S4x100x128.size h)).set ↔ _
  rw [View.set_slice_whole, mem_blk]
  refine Rect.mem_set_unit.trans ⟨fun h => ?_, fun h0 a => ?_⟩
  · have h0 : 4 * q.val ≤ (i 0).val ∧ (i 0).val < 4 * q.val + 4 := h 0
    omega
  · match a with
    | ⟨0, _⟩ => show 4 * q.val ≤ (i 0).val ∧ (i 0).val < 4 * q.val + 4; omega
    | ⟨1, _⟩ => exact ⟨Nat.zero_le _, by have : (i 1).val < 100 := (i 1).isLt; show (i 1).val < 0 + 100; omega⟩
    | ⟨2, _⟩ => exact ⟨Nat.zero_le _, by have : (i 2).val < 128 := (i 2).isLt; show (i 2).val < 0 + 128; omega⟩

theorem univ_eq_blks : (Finset.univ : Finset S16384x100x128.Idx) = Finset.univ.biUnion blkSet := by
  refine Finset.ext fun i => ⟨fun _ => ?_, fun _ => Finset.mem_univ _⟩
  have hi : (i 0).val < 16384 := (i 0).isLt
  have hq : (i 0).val / 4 < 4096 := by omega
  rw [Finset.mem_biUnion]
  exact ⟨Fin.mk ((i 0).val / 4) hq, Finset.mem_univ _, (mem_blk _ i).2 rfl⟩

theorem blks_disjoint : ∀ q ∈ (Finset.univ : Finset (Fin 4096)), ∀ q' ∈ (Finset.univ : Finset (Fin 4096)), q ≠ q' → Disjoint (blkSet q) (blkSet q') :=
  fun q _ q' _ hne => Finset.disjoint_left.mpr fun i h h' => hne (Fin.ext (((mem_blk q i).1 h).symm.trans ((mem_blk q' i).1 h')))

end Cert.Proof
-- ==== Proof.Slot.lean ====
/-
  One slot of a tile's row buffer: the four gathers that fill it, started together on the slot's semaphore and waited for
  one after another, and the store that empties it. Everything is said at a symbolic device, tile, slot and block.
-/
module

public import proofs.«01_k».proof.Proof.Geometry
public import Idealize.ShloMosaic.Lib.SparseCore.Stream

@[expose] public section

noncomputable section

namespace Cert.Proof

open Cert.KernelIdeal Cert.KernelIdeal.Gen
open Idealize.ShloMosaic Idealize.ShloMosaic.Transfers Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The logic's parameters -/

/-- The handshakes' rounds and the transfers' counters. -/
abbrev UH : Type := URounds (GSem nD τ sig) ℕ
abbrev UU : Type := UH × Counters

local notation "𝕄" => MT nD τ sig (HIx 1) (Elt F) ℕ UU ℕ

abbrev 𝒱₀ : Variants := Variants.none

/-- Tile `L` of device `d`. -/
abbrev thr (d : Dev nD) (L : grid0.Coords) : Thread nD τ := V d ((L 0).castLE hcore0) ((L 1).castLE hsub0)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0
abbrev sLoc (d : Dev nD) (L : grid0.Coords) : Loc nD τ sig := (thr d L).loc cc0_scratch0
abbrev rLoc (d : Dev nD) (L : grid0.Coords) : Loc nD τ sig := (thr d L).loc cc0_scratch1

/-- A tile's program run to `Q`. -/
abbrev tileWp [FloatOps F] (d : Dev nD) (L : grid0.Coords) {α : Type} (e : TileProg F L α) (Q : α → sProp 𝕄) : sProp 𝕄 :=
  wp frame (wpE (defs₀ (F := F)) 𝒱₀ (thr d L) none) Set.univ e Q

/-- Four things together. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem big_mono {I : Type} {s : Finset I} {Φ Ψ : I → sProp 𝕄} (h : ∀ i ∈ s, Φ i ⊢ Ψ i) : bigSep s Φ ⊢ bigSep s Ψ := bigSep_mono h

/-! ## Values -/

/-- The table row a word of the indices names. -/
def rowNo (w : BitVec 32) : Fin 100000 := ⟨w.toNat % 100000, Nat.mod_lt _ (by decide)⟩

theorem rowNo_val {w : BitVec 32} (h : w.toNat < 100000) : (rowNo w).val = w.toNat := Nat.mod_eq_of_lt h

variable (d : Dev nD) (L : grid0.Coords)
variable (tab : S100000x128.Idx → Elt F .f32) (fo : S128x100.Idx → Elt F .i32)

/-- The entry of a tile's copy of the indices that row `k` of window `j` is gathered by, for block `p`. -/
def entry (p : Fin 32) (j : Fin 4) (k : Fin 100) : S128x100.Idx := ix2 ⟨4 * p.val + j.val, by omega⟩ k

/-- What a slot holds once block `p` is gathered into it. -/
def slotVal (p : Fin 32) : S2x4x100x128.Idx → Elt F .f32 := fun i => tab (ix2 (rowNo (fo (entry p (i 1) (i 2)))) (i 3))

/-! ## Shares -/

/-- The share of the table, and of the tile's copy of the indices, that the gather into window `j` of slot `b` reads with. -/
def gShare (q : PosShare TreeShare) (b : Fin 2) (j : Fin 4) : PosShare TreeShare := pieceOf (pieceOf q 2 (by decide) b) 4 (by decide) j

variable (xq : PosShare TreeShare)

/-- What slot `b`'s gathers read with, while none is outstanding. -/
def Idle (b : Fin 2) : sProp 𝕄 :=
  bigSep Finset.univ fun j : Fin 4 => iprop((xLoc d ↦{gShare xq b j} tab) ∗ (sLoc d L ↦{gShare fullShare b j} fo))

/-! ## One gather of a slot's batch -/

theorem list_off (p : Fin 32) (j : Fin 4) : (![4 * p.val + j.val, 0] : Fin 2 → Nat) = ![(⟨4 * p.val + j.val, by omega⟩ : Fin 128).val, 0] := rfl

theorem list_read (p : Fin 32) (j : Fin 4) (x : S100.Idx) :
    (listM ![4 * p.val + j.val, 0] (list_inb p j)).view.read (Elt F) fo x = fo (entry p j (x 0)) := by
  rw [View.read_apply, list_emb ⟨4 * p.val + j.val, by omega⟩ _ _ (list_off p j) x]; rfl

theorem list_in (hin : ∀ i, (fo i).toNat < 100000) (p : Fin 32) (j : Fin 4) (x : S100.Idx) :
    ((listM ![4 * p.val + j.val, 0] (list_inb p j)).view.read (Elt F) fo x).toNat < S100000x128.size gathers_S100000x128_S100x128.axis := by
  rw [list_read]; exact hin _

theorem list_numel : S100.numel = S100x128.size gathers_S100000x128_S100x128.axis' := rfl

theorem o_pos : 0 < S100x128.size gathers_S100000x128_S100x128.axis' := by decide

/-- What row `r` of the gather into window `j` hands back. -/
def rowG (hin : ∀ i, (fo i).toNat < 100000) (b : Fin 2) (p : Fin 32) (fd : S2x4x100x128.Idx → Elt F .f32) (j : Fin 4) (r : Fin 100) : sProp 𝕄 :=
  rowDone (thr d L) tabM (winM b j) gathers_S100000x128_S100x128 (listM ![4 * p.val + j.val, 0] (list_inb p j)) list_numel o_pos (gShare xq b j) (gShare fullShare b j)
    tab fd fo (rows ((listM ![4 * p.val + j.val, 0] (list_inb p j)).view.read (Elt F) fo) list_numel (list_in fo hin p j)) r

/-- The rows of a slot's four gathers, in the order they are started. -/
def rowsD (hin : ∀ i, (fo i).toNat < 100000) (b : Fin 2) (p : Fin 32) (fd : S2x4x100x128.Idx → Elt F .f32) (t : Fin (4 * 100)) : sProp 𝕄 :=
  rowG d L tab fo xq hin b p fd (finProdFinEquiv.symm t).1 (finProdFinEquiv.symm t).2

instance (hin : ∀ i, (fo i).toNat < 100000) (b : Fin 2) (p : Fin 32) (fd : S2x4x100x128.Idx → Elt F .f32) (t : Fin (4 * 100)) :
    Storable (upEmb : UEmb _ 𝕄) (rowsD d L tab fo xq hin b p fd t) := by
  unfold rowsD rowG; exact rowDone_storable ..

/-- The batch of slot `b`'s gathers, `k` rows started and `u` units waited for. -/
abbrev gBatch (hin : ∀ i, (fo i).toNat < 100000) (b : Fin 2) (p : Fin 32) (fd : S2x4x100x128.Idx → Elt F .f32) (k u : ℕ) : sProp 𝕄 :=
  Batch countersEmb (thr d L) (.dma (gsem b)) (default : HIx 1) 4096 (rowsD d L tab fo xq hin b p fd) k u

theorem row_credit (b : Fin 2) (j : Fin 4) (r : Fin 100) :
    ((winM b j).slice (S100x128.rowRect gathers_S100000x128_S100x128.axis' r) (S100x128.stride_rowRect gathers_S100000x128_S100x128.axis' r)).view.dmaCredit = 4096 :=
  (by decide : sig.dmaCredit .scVector (Kind.scVector.table .vmem) cc0_scratch1.idx (S100x128.rowShape gathers_S100000x128_S100x128.axis') .f32 = 4096)

theorem win_credit (b : Fin 2) (j : Fin 4) : (winM b j).view.dmaCredit = 100 * 4096 :=
  (by decide : sig.dmaCredit .scVector (Kind.scVector.table .vmem) cc0_scratch1.idx S100x128 .f32 = 100 * 4096)

variable [FloatOps F]

/-- Starting the gather into window `j`: the slot's batch goes on by its 100 rows. -/
theorem wp_gather (hin : ∀ i, (fo i).toNat < 100000) (b : Fin 2) (p : Fin 32) (fd : S2x4x100x128.Idx → Elt F .f32) (j : Fin 4)
    {α : Type} {k : PUnit → TileProg F L α} {Q : α → sProp 𝕄} :
    iprop((xLoc d ↦{gShare xq b j} tab) ∗ (rLoc d L ↦[(winM b j).view.set]{fullShare} fd)
        ∗ (sLoc d L ↦[(listM ![4 * p.val + j.val, 0] (list_inb p j)).view.set]{gShare fullShare b j} fo)
        ∗ gBatch d L tab fo xq hin b p fd (100 * j.val) 0)
      ⊢ iprop((gBatch d L tab fo xq hin b p fd (100 * j.val + 100) 0 -∗ tileWp d L (k ⟨⟩) Q)
          -∗ tileWp d L (gatherOp L b j ![4 * p.val + j.val, 0] (list_inb p j) >>= k) Q) := by
  have hx : (xLoc d ↦{gShare xq b j} tab : sProp 𝕄) = (tabM.view.loc (thr d L) ↦[tabM.view.set]{gShare xq b j} tab) := by rw [tab_set]
  rw [hx]
  exact wp_gatherBatch (src := tabM) (dst := winM b j) (hg := gathers_S100000x128_S100x128) countersEmb 𝒱₀ (thr d L) none o_pos
    (default : HIx 1) 4096 (row_credit b j) (list_in fo hin p j) (k₀ := 100 * j.val) (u := 0)
    (D := rowsD d L tab fo xq hin b p fd)
    (by have := j.isLt; show 100 * j.val + 100 ≤ 400; omega) (Nat.zero_le _)
    (fun r => Entails.of_eq (by
      have e : (finProdFinEquiv (j, (r : Fin 100)) : Fin (4 * 100)) = ⟨100 * j.val + r.val, by have := j.isLt; have : r.val < 100 := r.isLt; omega⟩ :=
        Fin.ext (by show r.val + 100 * j.val = 100 * j.val + r.val; omega)
      unfold rowsD
      rw [← e, Equiv.symm_apply_apply]; rfl))

/-! ## The four gathers of a slot -/

omit [FloatOps F] in
/-- The tile's copy of the indices, as the gather into window `j` splits it: the list it reads and the rest. -/
theorem list_split (p : Fin 32) (j : Fin 4) (q : PosShare TreeShare) :
    (sLoc d L ↦{q} fo : sProp 𝕄) ⊣⊢ iprop((sLoc d L ↦[(listM ![4 * p.val + j.val, 0] (list_inb p j)).view.set]{q} fo)
      ∗ sLoc d L ↦[Finset.univ \ (listM ![4 * p.val + j.val, 0] (list_inb p j)).view.set]{q} fo) :=
  pointsTo_split_subset (Finset.subset_univ _)

/-- What stays behind of the tile's copy of the indices while block `p`'s gathers are outstanding. -/
def Rests (b : Fin 2) (p : Fin 32) : sProp 𝕄 :=
  bigSep Finset.univ fun j : Fin 4 => (sLoc d L ↦[Finset.univ \ (listM ![4 * p.val + j.val, 0] (list_inb p j)).view.set]{gShare fullShare b j} fo)

/-- Slot `b` with block `p`'s four gathers outstanding. -/
def InFlight (hin : ∀ i, (fo i).toNat < 100000) (b : Fin 2) (p : Fin 32) : sProp 𝕄 :=
  iprop(∃ fd, gBatch d L tab fo xq hin b p fd (4 * 100) 0 ∗ Rests d L fo b p)

/-- Slot `b`, at contents `f`. -/
abbrev slotAt (b : Fin 2) (f : S2x4x100x128.Idx → Elt F .f32) : sProp 𝕄 := rLoc d L ↦[(slotM b).view.set]{fullShare} f

omit [FloatOps F] in
theorem slot_wins (b : Fin 2) (f : S2x4x100x128.Idx → Elt F .f32) :
    (slotAt d L b f : sProp 𝕄) = bigSep Finset.univ fun j : Fin 4 => (rLoc d L ↦[(winM b j).view.set]{fullShare} f) := by
  unfold slotAt
  rw [slot_eq_wins]
  exact pointsTo_biUnion (ℓ := rLoc d L) Finset.univ (fun j => (winM b j).view.set) (wins_disjoint b)

omit [FloatOps F] in
/-- The lists block `p`'s gathers read and what stays behind, from and into the shares at rest. -/
theorem lists_split (b : Fin 2) (p : Fin 32) :
    (bigSep Finset.univ fun j : Fin 4 => (sLoc d L ↦{gShare fullShare b j} fo : sProp 𝕄))
      = iprop((bigSep Finset.univ fun j : Fin 4 => (sLoc d L ↦[(listM ![4 * p.val + j.val, 0] (list_inb p j)).view.set]{gShare fullShare b j} fo))
        ∗ Rests d L fo b p) := by
  unfold Rests
  rw [← bigSep_sep']
  exact bigSep_congr fun j _ => BI.Entails.antisymm (list_split d L fo p j _).1 (list_split d L fo p j _).2

theorem wp_gathers (hin : ∀ i, (fo i).toNat < 100000) (b : Fin 2) (p : Fin 32) (fd : S2x4x100x128.Idx → Elt F .f32)
    {off : Fin 4 → Fin 2 → Nat} {h : ∀ j a, off j a + S1x100.size a ≤ S128x100.size a} (hoff : ∀ j, off j = ![4 * p.val + j.val, 0])
    {α : Type} {k : PUnit → TileProg F L α} {Q : α → sProp 𝕄} :
    iprop(slotAt d L b fd ∗ Idle d L tab fo xq b ∗ semVal (thr d L, .dma (gsem b)) 0)
      ⊢ iprop((InFlight d L tab fo xq hin b p -∗ tileWp d L (k ⟨⟩) Q) -∗ tileWp d L (gathers L b off h >>= k) Q) := by
  obtain rfl : off = fun j => ![4 * p.val + j.val, 0] := funext hoff
  unfold gathers
  simp only [bind_assoc]
  iintro ⟨Hs, Hi, Hv⟩ Hk
  imod (batch_alloc' countersEmb (thr d L) (default : HIx 1) 4096 (rowsD d L tab fo xq hin b p fd)) $$ Hv with HB
  unfold Idle
  ihave Hi := bigSep_sep_out _ _ _ $$ Hi
  icases Hi with ⟨Hx, Hl⟩
  ihave Hl := (Entails.of_eq (lists_split d L fo b p)) $$ Hl
  icases Hl with ⟨Hl, Hr⟩
  ihave Hs := (Entails.of_eq (slot_wins d L b fd)) $$ Hs
  ihave Hs := (Entails.of_eq (four _)) $$ Hs
  ihave Hx := (Entails.of_eq (four _)) $$ Hx
  ihave Hl := (Entails.of_eq (four _)) $$ Hl
  icases Hs with ⟨Hs0, Hs1, Hs2, Hs3⟩
  icases Hx with ⟨Hx0, Hx1, Hx2, Hx3⟩
  icases Hl with ⟨Hl0, Hl1, Hl2, Hl3⟩
  iapply (wp_gather d L tab fo xq hin b p fd 0) $$ [Hx0 Hs0 Hl0 HB]
  · isplitl [Hx0]; · iexact Hx0
    isplitl [Hs0]; · iexact Hs0
    isplitl [Hl0]; · iexact Hl0
    iexact HB
  iintro HB
  iapply (wp_gather d L tab fo xq hin b p fd 1) $$ [Hx1 Hs1 Hl1 HB]
  · isplitl [Hx1]; · iexact Hx1
    isplitl [Hs1]; · iexact Hs1
    isplitl [Hl1]; · iexact Hl1
    iexact HB
  iintro HB
  iapply (wp_gather d L tab fo xq hin b p fd 2) $$ [Hx2 Hs2 Hl2 HB]
  · isplitl [Hx2]; · iexact Hx2
    isplitl [Hs2]; · iexact Hs2
    isplitl [Hl2]; · iexact Hl2
    iexact HB
  iintro HB
  iapply (wp_gather d L tab fo xq hin b p fd 3) $$ [Hx3 Hs3 Hl3 HB]
  · isplitl [Hx3]; · iexact Hx3
    isplitl [Hs3]; · iexact Hs3
    isplitl [Hl3]; · iexact Hl3
    iexact HB
  iintro HB
  iapply Hk
  unfold InFlight
  iexists fd
  isplitl [HB]; · iexact HB
  iexact Hr

/-! ## The four waits -/

/-- What the tile owes, with whatever waits it has recorded since `W`. -/
def Owes (O : CellTallies nD τ sig (HIx 1)) (W : Waits sig (HIx 1)) : sProp 𝕄 :=
  iprop(∃ W', ⌜∀ p ∈ W', p ∈ W ∨ p.2 = none⌝ ∗ owes (thr d L) O W')

omit [FloatOps F] in
theorem Owes_elim (O : CellTallies nD τ sig (HIx 1)) (W : Waits sig (HIx 1)) :
    (Owes d L O W : sProp 𝕄) ⊢ iprop(∃ W', ⌜∀ p ∈ W', p ∈ W ∨ p.2 = none⌝ ∗ owes (thr d L) O W') := by
  unfold Owes; exact Entails.rfl

omit [FloatOps F] in
/-- Recording a wait of the tile's own. -/
theorem Owes_insert {O : CellTallies nD τ sig (HIx 1)} {W W' : Waits sig (HIx 1)} (s : SemLoc sig) (h : ∀ p ∈ W', p ∈ W ∨ p.2 = none) :
    (owes (thr d L) O (insert (s, (default : HIx 1)) W') : sProp 𝕄) ⊢ Owes d L O W := by
  unfold Owes
  iintro HO
  iexists _; isplitr
  swap; · iexact HO
  ipureintro; intro p hp
  rcases Finset.mem_insert.mp hp with hp | hp
  · exact .inr (hp ▸ rfl)
  · exact h p hp

omit [FloatOps F] in
theorem win_write (b : Fin 2) (j : Fin 4) (fd : S2x4x100x128.Idx → Elt F .f32) (w : S100x128.Idx → Elt F .f32) (x : S100x128.Idx) :
    (winM b j).view.write (Elt F) fd w Finset.univ ((winM b j).view.emb x) = w x :=
  (View.write_emb_of_mem (v := (winM b j).view) fd w (Finset.mem_univ x)).trans (cast_eq _ _)

omit [FloatOps F] in
/-- A gathered window, read: row `k` is the table row the list's word `k` names. -/
theorem win_val (hin : ∀ i, (fo i).toNat < 100000) (b : Fin 2) (p : Fin 32) (fd : S2x4x100x128.Idx → Elt F .f32) (j : Fin 4) :
    ∀ i ∈ (winM b j).view.set,
      (winM b j).view.write (Elt F) fd (gatherPayload gathers_S100000x128_S100x128 (tabM.view.read (Elt F) tab)
        (rows ((listM ![4 * p.val + j.val, 0] (list_inb p j)).view.read (Elt F) fo) list_numel (list_in fo hin p j))) Finset.univ i = slotVal tab fo p i := by
  intro i hi
  obtain ⟨x, -, rfl⟩ := Finset.mem_map.mp hi
  refine (win_write b j fd _ x).trans ?_
  rw [win_emb]
  unfold gatherPayload slotVal
  rw [View.read_apply, tab_emb]
  refine (cast_eq _ _).trans (congrArg tab ?_)
  funext a
  match a with
  | ⟨0, _⟩ =>
    refine (Shape.Gathers.idx_axis gathers_S100000x128_S100x128 _ x).trans (Fin.ext ?_)
    refine (congrArg BitVec.toNat (list_read fo p j (S100.rowMajor.symm ((x 0 : Fin 100).cast list_numel.symm)))).trans ?_
    rw [show (S100.rowMajor.symm ((x 0 : Fin 100).cast list_numel.symm)) 0 = (x 0 : Fin 100) from
      Fin.ext ((Shape.rowMajor_val_one _).symm.trans (congrArg Fin.val (Equiv.apply_symm_apply S100.rowMajor _)))]
    exact (rowNo_val (hin _)).symm
  | ⟨1, h⟩ =>
    exact Fin.ext (Shape.Gathers.idx_of_ne gathers_S100000x128_S100x128 _ x (b := ⟨1, h⟩) Nat.one_ne_zero)

/-- A wait for one gather before the slot's last wait: nothing is handed back yet. -/
theorem wp_gatherWait (hin : ∀ i, (fo i).toNat < 100000) (b : Fin 2) (p : Fin 32) (fd : S2x4x100x128.Idx → Elt F .f32) (j : Fin 4) (u : ℕ)
    (hu : u + 100 * 4096 ≤ 4096 * (4 * 100)) {O : CellTallies nD τ sig (HIx 1)} {W : Waits sig (HIx 1)} {α : Type} {k : PUnit → TileProg F L α} {Q : α → sProp 𝕄} :
    iprop(Transfers.MayWaits (thr d L) (default : HIx 1) O ∗ gBatch d L tab fo xq hin b p fd (4 * 100) u ∗ Owes d L O W)
      ⊢ iprop((iprop(gBatch d L tab fo xq hin b p fd (4 * 100) (u + 100 * 4096) ∗ Owes d L O W) -∗ tileWp d L (k ⟨⟩) Q)
        -∗ tileWp d L (gatherWait L b j >>= k) Q) := by
  iintro ⟨Hmw, HB, HO⟩ Hk
  ihave HO := (Owes_elim d L O W) $$ HO
  icases HO with ⟨%W', %hW, HO⟩
  iapply (wp_waitBatchMulO countersEmb 𝒱₀ (thr d L) none (dstw := winM b j) (default : HIx 1) 100 (win_credit b j) (D := rowsD d L tab fo xq hin b p fd) hu) $$ [HB HO Hmw]
  · isplitl [HB]; · iexact HB
    isplitl [HO]; · iexact HO
    iapply (Transfers.MayWaits.elim (SemLoc.dma (gsem b))) $$ Hmw
  iintro ⟨HB, HO⟩
  iapply Hk
  isplitl [HB]; · iexact HB
  iapply (Owes_insert d L _ hW) $$ HO

/-- The slot's last wait: all the rows are in. -/
theorem wp_gatherWaitLast (hin : ∀ i, (fo i).toNat < 100000) (b : Fin 2) (p : Fin 32) (fd : S2x4x100x128.Idx → Elt F .f32) (j : Fin 4) (u : ℕ)
    (hu : u + 100 * 4096 = 4096 * (4 * 100)) {O : CellTallies nD τ sig (HIx 1)} {W : Waits sig (HIx 1)} {α : Type} {k : PUnit → TileProg F L α} {Q : α → sProp 𝕄} :
    iprop(Transfers.MayWaits (thr d L) (default : HIx 1) O ∗ gBatch d L tab fo xq hin b p fd (4 * 100) u ∗ Owes d L O W)
      ⊢ iprop((iprop(bigSep Finset.univ (rowsD d L tab fo xq hin b p fd) ∗ semVal (thr d L, .dma (gsem b)) 0 ∗ Owes d L O W) -∗ tileWp d L (k ⟨⟩) Q)
        -∗ tileWp d L (gatherWait L b j >>= k) Q) := by
  iintro ⟨Hmw, HB, HO⟩ Hk
  ihave HO := (Owes_elim d L O W) $$ HO
  icases HO with ⟨%W', %hW, HO⟩
  iapply (wp_waitBatchAllO countersEmb 𝒱₀ (thr d L) none (dstw := winM b j) (default : HIx 1) (win_credit b j) (by decide) (D := rowsD d L tab fo xq hin b p fd) hu) $$ [HB HO Hmw]
  · isplitl [HB]; · iexact HB
    isplitl [HO]; · iexact HO
    iapply (Transfers.MayWaits.elim (SemLoc.dma (gsem b))) $$ Hmw
  iintro ⟨HB, Hv, HO⟩
  iapply Hk
  isplitl [HB]; · iexact HB
  isplitl [Hv]; · iexact Hv
  iapply (Owes_insert d L _ hW) $$ HO

omit [FloatOps F] in
/-- All of the slot's rows: the slot at block `p`, and what the gathers read with. -/
theorem rows_back (hin : ∀ i, (fo i).toNat < 100000) (b : Fin 2) (p : Fin 32) (fd : S2x4x100x128.Idx → Elt F .f32) :
    bigSep Finset.univ (rowsD d L tab fo xq hin b p fd)
      ⊢ iprop(slotAt d L b (slotVal tab fo p) ∗ (bigSep Finset.univ fun j : Fin 4 => (xLoc d ↦{gShare xq b j} tab))
        ∗ bigSep Finset.univ fun j : Fin 4 => (sLoc d L ↦[(listM ![4 * p.val + j.val, 0] (list_inb p j)).view.set]{gShare fullShare b j} fo)) := by
  have hre : (bigSep Finset.univ (rowsD d L tab fo xq hin b p fd) : sProp 𝕄)
      = bigSep Finset.univ fun j : Fin 4 => bigSep Finset.univ fun r : Fin 100 => rowG d L tab fo xq hin b p fd j r := by
    rw [bigSep_univ_equiv finProdFinEquiv, bigSep_univ_prod]
    unfold rowsD
    simp only [Equiv.symm_apply_apply]
  have hj : ∀ j : Fin 4, (bigSep Finset.univ fun r : Fin 100 => rowG d L tab fo xq hin b p fd j r)
      ⊢ (iprop((rLoc d L ↦[(winM b j).view.set]{fullShare} slotVal tab fo p) ∗ (xLoc d ↦{gShare xq b j} tab)
        ∗ (sLoc d L ↦[(listM ![4 * p.val + j.val, 0] (list_inb p j)).view.set]{gShare fullShare b j} fo)) : sProp 𝕄) := fun j => by
    have hx : (xLoc d ↦{gShare xq b j} tab : sProp 𝕄) = (tabM.view.loc (thr d L) ↦[tabM.view.set]{gShare xq b j} tab) := by rw [tab_set]
    rw [hx, ← pointsTo_congr (ℓ := rLoc d L) (win_val tab fo hin b p fd j)]
    exact rowsDone_join (thr d L) tabM (winM b j) gathers_S100000x128_S100x128 (listM ![4 * p.val + j.val, 0] (list_inb p j)) list_numel o_pos
      (gShare xq b j) (gShare fullShare b j) tab fd fo _
  rw [hre, slot_wins]
  iintro H
  ihave H := (big_mono fun j _ => hj j) $$ H
  ihave H := bigSep_sep_out _ _ _ $$ H
  icases H with ⟨Hs, H⟩
  ihave H := bigSep_sep_out _ _ _ $$ H
  icases H with ⟨Hx, Hl⟩
  isplitl [Hs]; · iexact Hs
  isplitl [Hx] <;> iassumption

theorem wp_gatherWaits (hin : ∀ i, (fo i).toNat < 100000) (b : Fin 2) (p : Fin 32) {O : CellTallies nD τ sig (HIx 1)} {W : Waits sig (HIx 1)}
    {α : Type} {k : PUnit → TileProg F L α} {Q : α → sProp 𝕄} :
    iprop(InFlight d L tab fo xq hin b p ∗ Transfers.MayWaits (thr d L) (default : HIx 1) O ∗ Owes d L O W)
      ⊢ iprop((iprop(slotAt d L b (slotVal tab fo p) ∗ Idle d L tab fo xq b ∗ semVal (thr d L, .dma (gsem b)) 0 ∗ Owes d L O W) -∗ tileWp d L (k ⟨⟩) Q)
        -∗ tileWp d L (gatherWaits L b >>= k) Q) := by
  unfold gatherWaits
  simp only [bind_assoc]
  unfold InFlight
  iintro ⟨⟨%fd, HB, Hr⟩, #Hmw, HO⟩ Hk
  iapply (wp_gatherWait d L tab fo xq hin b p fd 0 0 (by decide)) $$ [HB HO]
  · isplitr; · iexact Hmw
    isplitl [HB] <;> iassumption
  iintro ⟨HB, HO⟩
  iapply (wp_gatherWait d L tab fo xq hin b p fd 1 (0 + 100 * 4096) (by decide)) $$ [HB HO]
  · isplitr; · iexact Hmw
    isplitl [HB] <;> iassumption
  iintro ⟨HB, HO⟩
  iapply (wp_gatherWait d L tab fo xq hin b p fd 2 (0 + 100 * 4096 + 100 * 4096) (by decide)) $$ [HB HO]
  · isplitr; · iexact Hmw
    isplitl [HB] <;> iassumption
  iintro ⟨HB, HO⟩
  iapply (wp_gatherWaitLast d L tab fo xq hin b p fd 3 (0 + 100 * 4096 + 100 * 4096 + 100 * 4096) (by decide)) $$ [HB HO]
  · isplitr; · iexact Hmw
    isplitl [HB] <;> iassumption
  iintro ⟨HD, Hv, HO⟩
  ihave HD := (rows_back d L tab fo xq hin b p fd) $$ HD
  icases HD with ⟨Hs, Hx, Hl⟩
  iapply Hk
  isplitl [Hs]; · iexact Hs
  isplitl [Hx Hl Hr]
  · unfold Idle
    iapply (bigSep_sep_in _ _ _)
    isplitl [Hx]; · iexact Hx
    iapply (Entails.of_eq (lists_split d L fo b p).symm)
    isplitl [Hl] <;> iassumption
  isplitl [Hv] <;> iassumption

end Cert.Proof

end
-- ==== Proof.Quarter.lean ====
/-
  A quarter of a tile's work: 128 rows of the result, as 32 blocks of four rows. The indices are fetched, the two slots
  take turns at gathering a block and storing it, and at the end every block of the quarter holds its table rows.
-/
module

public import proofs.«01_k».proof.Proof.Slot

@[expose] public section

noncomputable section

namespace Cert.Proof

open Cert.KernelIdeal Cert.KernelIdeal.Gen
open Idealize.ShloMosaic Idealize.ShloMosaic.Transfers Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sV" => (Memref.whole Cert.KernelIdeal.cc0_scratch0 : Memref Cert.KernelIdeal.sig Kind.scVector Space.vmem Cert.KernelIdeal.S128x100 EltTy.i32)

variable (d : Dev nD) (L : grid0.Coords)
variable (tab : S100000x128.Idx → Elt F .f32) (idx : S16384x100.Idx → Elt F .i32) (out₀ : S16384x100x128.Idx → Elt F .f32)
variable (xq iq : PosShare TreeShare)

/-! ## Values -/

/-- The result: every row the table row its index names. -/
def outVal : S16384x100x128.Idx → Elt F .f32 := fun i => tab (ix2 (rowNo (idx (ix2 (i 0) (i 1)))) (i 2))

/-- The 128 rows of the indices a quarter works by. -/
def listOf (g : Fin 128) : S128x100.Idx → Elt F .i32 := fun x => idx (ix2 ⟨128 * g.val + (x 0).val, by have : (x 0).val < 128 := (x 0).isLt; omega⟩ (x 1))

theorem listOf_in (hidx : ∀ i, (idx i).toNat < 100000) (g : Fin 128) : ∀ x, (listOf idx g x).toNat < 100000 := fun _ => hidx _

/-- Block `p` of quarter `g`. -/
def blk (g : Fin 128) (p : Fin 32) : Fin 4096 := ⟨32 * g.val + p.val, by omega⟩

theorem slotVal_out (g : Fin 128) (p : Fin 32) (b : Fin 2) (off : Fin 3 → Nat) (h) (hoff : off = ![4 * (blk g p).val, 0, 0]) (y : S4x100x128.Idx) :
    slotVal tab (listOf idx g) p (ix4 b (y 0) (y 1) (y 2) : S2x4x100x128.Idx) = outVal tab idx ((outM off h).view.emb y) := by
  have e0 : ((outM off h).view.emb y (0 : Fin 3)).val = 4 * (32 * g.val + p.val) + (y 0).val := out_emb_val _ off h hoff y 0
  have e1 : ((outM off h).view.emb y (1 : Fin 3)).val = (y 1).val := (out_emb_val _ off h hoff y 1).trans (Nat.zero_add _)
  have e2 : ((outM off h).view.emb y (2 : Fin 3)).val = (y 2).val := (out_emb_val _ off h hoff y 2).trans (Nat.zero_add _)
  unfold slotVal outVal listOf entry
  refine congrArg tab (congrArg₂ ix2 (congrArg rowNo (congrArg idx (congrArg₂ ix2 (Fin.ext ?_) (Fin.ext ?_)))) (Fin.ext ?_))
  · refine Eq.trans ?_ e0.symm
    show 128 * g.val + (4 * p.val + (y 0).val) = _
    omega
  · exact e1.symm
  · exact e2.symm

/-! ## The blocks of the result -/

/-- A block of the result at contents `f`. -/
abbrev blkAt (f : S16384x100x128.Idx → Elt F .f32) (q : Fin 4096) : sProp 𝕄 := oLoc d ↦[blkSet q]{fullShare} f

/-- Block `p` of the quarter when the first `n` are done. -/
def Blk (g : Fin 128) (n : ℕ) (p : Fin 32) : sProp 𝕄 := blkAt d (if p.val < n then outVal tab idx else out₀) (blk g p)

theorem Blk_done (g : Fin 128) {n : ℕ} {p : Fin 32} (h : p.val < n) : Blk d tab idx out₀ g n p = blkAt d (outVal tab idx) (blk g p) := by
  unfold Blk; rw [if_pos h]
theorem Blk_todo (g : Fin 128) {n : ℕ} {p : Fin 32} (h : ¬p.val < n) : Blk d tab idx out₀ g n p = blkAt d out₀ (blk g p) := by
  unfold Blk; rw [if_neg h]

/-- The two blocks of round `r`. -/
def pr (r : Fin 16) (b : Fin 2) : Fin 32 := ⟨2 * r.val + b.val, by omega⟩

/-- The quarter's other blocks, when those of the rounds before `r` are done. -/
def Rest (g : Fin 128) (r : Fin 16) : sProp 𝕄 :=
  bigSep ((Finset.univ.erase (pr r 0)).erase (pr r 1)) (Blk d tab idx out₀ g (2 * r.val))

theorem blks_split (g : Fin 128) (n : ℕ) (r : Fin 16) :
    bigSep Finset.univ (Blk d tab idx out₀ g n)
      = iprop(Blk d tab idx out₀ g n (pr r 0) ∗ Blk d tab idx out₀ g n (pr r 1)
        ∗ bigSep ((Finset.univ.erase (pr r 0)).erase (pr r 1)) (Blk d tab idx out₀ g n)) := by
  rw [SparseCore.bigSep_erase' (Finset.mem_univ (pr r 0)),
    SparseCore.bigSep_erase' (Finset.mem_erase.mpr ⟨fun e => by have := congrArg Fin.val e; simp [pr] at this, Finset.mem_univ (pr r 1)⟩)]

theorem blks_take (g : Fin 128) (r : Fin 16) :
    bigSep Finset.univ (Blk d tab idx out₀ g (2 * r.val))
      = iprop(blkAt d out₀ (blk g (pr r 0)) ∗ blkAt d out₀ (blk g (pr r 1)) ∗ Rest d tab idx out₀ g r) := by
  rw [blks_split d tab idx out₀ g _ r, Blk_todo d tab idx out₀ g (show ¬(pr r 0).val < 2 * r.val by show ¬(2 * r.val + 0 < 2 * r.val); omega),
    Blk_todo d tab idx out₀ g (show ¬(pr r 1).val < 2 * r.val by show ¬(2 * r.val + 1 < 2 * r.val); omega)]
  rfl

theorem blks_put (g : Fin 128) (r : Fin 16) :
    iprop(blkAt d (outVal tab idx) (blk g (pr r 0)) ∗ blkAt d (outVal tab idx) (blk g (pr r 1)) ∗ Rest d tab idx out₀ g r)
      = bigSep Finset.univ (Blk d tab idx out₀ g (2 * (r.val + 1))) := by
  have hr : Rest d tab idx out₀ g r = bigSep ((Finset.univ.erase (pr r 0)).erase (pr r 1)) (Blk d tab idx out₀ g (2 * (r.val + 1))) := by
    unfold Rest
    refine bigSep_congr fun p hp => ?_
    have h1 : p.val ≠ 2 * r.val + 1 := fun e => (Finset.mem_erase.mp hp).1 (Fin.ext e)
    have h0 : p.val ≠ 2 * r.val + 0 := fun e => (Finset.mem_erase.mp (Finset.mem_erase.mp hp).2).1 (Fin.ext e)
    by_cases h : p.val < 2 * r.val
    · rw [Blk_done d tab idx out₀ g h, Blk_done d tab idx out₀ g (n := 2 * (r.val + 1)) (by omega)]
    · rw [Blk_todo d tab idx out₀ g h, Blk_todo d tab idx out₀ g (n := 2 * (r.val + 1)) (by omega)]
  rw [blks_split d tab idx out₀ g _ r, hr,
    Blk_done d tab idx out₀ g (show (pr r 0).val < 2 * (r.val + 1) by show 2 * r.val + 0 < 2 * (r.val + 1); omega),
    Blk_done d tab idx out₀ g (show (pr r 1).val < 2 * (r.val + 1) by show 2 * r.val + 1 < 2 * (r.val + 1); omega)]

/-! ## The store of a slot -/

/-- The units a block's store pays. -/
abbrev blkCredit : ℕ := (outM ![0, 0, 0] inb_S16384x100x128_S4x100x128_0_0_0).view.dmaCredit

/-- Slot `b`'s store of block `p`, outstanding. -/
def Stored (g : Fin 128) (b : Fin 2) (p : Fin 32) : sProp 𝕄 :=
  Flight countersEmb (thr d L) (.dma (osem b)) (default : HIx 1) blkCredit
    iprop(blkAt d (outVal tab idx) (blk g p) ∗ slotAt d L b (slotVal tab (listOf idx g) p))

variable [FloatOps F]

theorem wp_store (g : Fin 128) (b : Fin 2) (p : Fin 32) {off : Fin 3 → Nat} {h : ∀ a, off a + S4x100x128.size a ≤ S16384x100x128.size a}
    (hoff : off = ![4 * (blk g p).val, 0, 0]) {α : Type} {k : PUnit → TileProg F L α} {Q : α → sProp 𝕄} :
    iprop(slotAt d L b (slotVal tab (listOf idx g) p) ∗ blkAt d out₀ (blk g p) ∗ semVal (thr d L, .dma (osem b)) 0)
      ⊢ iprop((Stored d L tab idx g b p -∗ tileWp d L (k ⟨⟩) Q) -∗ tileWp d L (storeOp L b off h >>= k) Q) := by
  have hset : (outM off h).view.set = blkSet (blk g p) := out_set _ off h hoff
  have hval : (blkAt d (outVal tab idx) (blk g p) : sProp 𝕄)
      = (oLoc d ↦[blkSet (blk g p)]{fullShare} ((outM off h).view.write (Elt F) out₀
          (ReadAs.same.apply ((slotM b).view.read (Elt F) (slotVal tab (listOf idx g) p))) Finset.univ)) := by
    refine pointsTo_congr fun i hi => ?_
    rw [← hset] at hi
    obtain ⟨y, -, rfl⟩ := Finset.mem_map.mp hi
    refine Eq.trans ?_ (View.write_emb_of_mem (v := (outM off h).view) _ _ (Finset.mem_univ y)).symm
    refine Eq.trans ?_ (cast_eq _ _).symm
    refine Eq.trans ?_ (View.read_apply _ _).symm
    refine Eq.trans ?_ (cast_eq _ _).symm
    refine Eq.trans ?_ (congrArg (slotVal tab (listOf idx g) p) (slot_emb b y)).symm
    exact (slotVal_out tab idx g p b off h hoff y).symm
  unfold Stored
  rw [hval]
  exact wp_dmaLocal countersEmb 𝒱₀ (thr d L) none (src := slotM b) (dst := outM off h) (default : HIx 1) blkCredit rfl
    (View.dmaCredit_pos _ (by decide)) (hset ▸ Finset.Subset.refl _)

theorem wp_storeWait (g : Fin 128) (b : Fin 2) (p : Fin 32) {O : CellTallies nD τ sig (HIx 1)} {W : Waits sig (HIx 1)}
    {α : Type} {k : PUnit → TileProg F L α} {Q : α → sProp 𝕄} :
    iprop(Stored d L tab idx g b p ∗ Transfers.MayWaits (thr d L) (default : HIx 1) O ∗ Owes d L O W)
      ⊢ iprop((iprop(blkAt d (outVal tab idx) (blk g p) ∗ slotAt d L b (slotVal tab (listOf idx g) p) ∗ semVal (thr d L, .dma (osem b)) 0 ∗ Owes d L O W)
          -∗ tileWp d L (k ⟨⟩) Q) -∗ tileWp d L (storeWait L b >>= k) Q) := by
  iintro ⟨HF, Hmw, HO⟩ Hk
  ihave HO := (Owes_elim d L O W) $$ HO
  icases HO with ⟨%W', %hW, HO⟩
  unfold Stored
  iapply (wp_waitLocalO countersEmb 𝒱₀ (thr d L) none (dstw := outM ![0, 0, 0] inb_S16384x100x128_S4x100x128_0_0_0) (default : HIx 1) rfl) $$ [HF HO Hmw]
  · isplitl [HF]; · iexact HF
    isplitl [HO]; · iexact HO
    iapply (Transfers.MayWaits.elim (SemLoc.dma (osem b))) $$ Hmw
  iintro ⟨⟨Hb, Hs⟩, Hv, HO⟩
  iapply Hk
  isplitl [Hb]; · iexact Hb
  isplitl [Hs]; · iexact Hs
  isplitl [Hv]; · iexact Hv
  iapply (Owes_insert d L _ hW) $$ HO

/-! ## The fetch of the indices -/

theorem wp_fetch (g : Fin 128) (sem : DmaSem sig) {off : Fin 2 → Nat} {h : ∀ a, off a + S128x100.size a ≤ S16384x100.size a}
    (hoff : off = ![128 * g.val, 0]) (f₀ : S128x100.Idx → Elt F .i32) {O : CellTallies nD τ sig (HIx 1)} {W : Waits sig (HIx 1)}
    {α : Type} {k : PUnit → TileProg F L α} {Q : α → sProp 𝕄} :
    iprop((iLoc d ↦{iq} idx) ∗ (sLoc d L ↦{fullShare} f₀) ∗ semVal (thr d L, .dma sem) 0 ∗ Transfers.MayWaits (thr d L) (default : HIx 1) O ∗ Owes d L O W)
      ⊢ iprop((iprop((iLoc d ↦{iq} idx) ∗ (sLoc d L ↦{fullShare} listOf idx g) ∗ semVal (thr d L, .dma sem) 0 ∗ Owes d L O W) -∗ tileWp d L (k ⟨⟩) Q)
        -∗ tileWp d L (fetch L sem off h >>= k) Q) := by
  have hval : (sV).view.write (Elt F) f₀ (ReadAs.same.apply ((idxM off h).view.read (Elt F) idx)) Finset.univ = listOf idx g := by
    refine (View.write_whole_univ ..).trans (funext fun x => ?_)
    refine (View.read_apply (v := (idxM off h).view) idx x).trans ((cast_eq _ _).trans ?_)
    unfold listOf
    refine congrArg idx (funext fun a => ?_)
    match a with
    | ⟨0, _⟩ => exact Fin.ext (idx_emb_val0 _ off h hoff x)
    | ⟨1, _⟩ => exact Fin.ext (idx_emb_val1 _ off h hoff x)
  have hsplit : (iLoc d ↦{iq} idx : sProp 𝕄) ⊣⊢ iprop((iLoc d ↦[(idxM off h).view.set]{iq} idx) ∗ iLoc d ↦[Finset.univ \ (idxM off h).view.set]{iq} idx) :=
    pointsTo_split_subset (Finset.subset_univ _)
  unfold fetch
  simp only [bind_assoc]
  iintro ⟨Hi, Hs, Hv, Hmw, HO⟩ Hk
  ihave Hi := hsplit.1 $$ Hi
  icases Hi with ⟨Hi, Hir⟩
  ihave HO := (Owes_elim d L O W) $$ HO
  icases HO with ⟨%W', %hW, HO⟩
  iapply (wp_dmaLocal countersEmb 𝒱₀ (thr d L) none (src := idxM off h) (dst := sV) (Sd := Finset.univ) (fd := f₀) (default : HIx 1) (sV).view.dmaCredit rfl
    (View.dmaCredit_pos _ (by decide)) (Finset.subset_univ _)) $$ [Hi Hs Hv]
  · isplitl [Hi]; · iexact Hi
    isplitl [Hs]; · iexact Hs
    iexact Hv
  iintro HF
  iapply (wp_waitLocalO countersEmb 𝒱₀ (thr d L) none (dstw := sV) (default : HIx 1) rfl) $$ [HF HO Hmw]
  · isplitl [HF]; · iexact HF
    isplitl [HO]; · iexact HO
    iapply (Transfers.MayWaits.elim (SemLoc.dma sem)) $$ Hmw
  iintro ⟨⟨Hs, Hi⟩, Hv, HO⟩
  iapply Hk
  isplitl [Hi Hir]
  · iapply hsplit.2
    isplitl [Hi] <;> iassumption
  isplitl [Hs]
  · rw [← hval]; iexact Hs
  isplitl [Hv]; · iexact Hv
  iapply (Owes_insert d L _ hW) $$ HO

theorem tileWp_pure {α : Type} (a : α) (Q : α → sProp 𝕄) : Q a ⊢ tileWp d L (pure a) Q := by
  iintro H
  unfold tileWp
  rw [wp_pure]
  imodintro
  iexact H

/-! ## The rounds -/

variable (hidx : ∀ i, (idx i).toNat < 100000) (g : Fin 128)

/-- Before round `r`: both slots' gathers for its two blocks outstanding, the blocks of the rounds before it done. -/
def Running (O : CellTallies nD τ sig (HIx 1)) (W : Waits sig (HIx 1)) (r : Fin 16) : sProp 𝕄 :=
  iprop(Transfers.MayWaits (thr d L) (default : HIx 1) O ∗ Owes d L O W
    ∗ InFlight d L tab (listOf idx g) xq (listOf_in idx hidx g) 0 (pr r 0) ∗ InFlight d L tab (listOf idx g) xq (listOf_in idx hidx g) 1 (pr r 1)
    ∗ semVal (thr d L, .dma (osem 0)) 0 ∗ semVal (thr d L, .dma (osem 1)) 0 ∗ bigSep Finset.univ (Blk d tab idx out₀ g (2 * r.val)))

/-- After the last round: both slots' last stores outstanding. -/
def Ended (O : CellTallies nD τ sig (HIx 1)) (W : Waits sig (HIx 1)) : sProp 𝕄 :=
  iprop(Transfers.MayWaits (thr d L) (default : HIx 1) O ∗ Owes d L O W
    ∗ Stored d L tab idx g 0 (pr 15 0) ∗ Stored d L tab idx g 1 (pr 15 1) ∗ semVal (thr d L, .dma (gsem 0)) 0 ∗ semVal (thr d L, .dma (gsem 1)) 0
    ∗ Idle d L tab (listOf idx g) xq 0 ∗ Idle d L tab (listOf idx g) xq 1 ∗ Rest d tab idx out₀ g 15)

/-- Before round `k`, or after the last. -/
def Inv (O : CellTallies nD τ sig (HIx 1)) (W : Waits sig (HIx 1)) (k : ℕ) : sProp 𝕄 :=
  if h : k < 16 then Running d L tab idx out₀ xq hidx g O W ⟨k, h⟩ else Ended d L tab idx out₀ xq g O W

/-- What a tile works with, whatever is in its own two buffers. -/
def TileRes (O : CellTallies nD τ sig (HIx 1)) (W : Waits sig (HIx 1)) : sProp 𝕄 :=
  iprop((iLoc d ↦{iq} idx) ∗ (xLoc d ↦{xq} tab) ∗ (∃ f, sLoc d L ↦{fullShare} f) ∗ (∃ f, slotAt d L 0 f) ∗ (∃ f, slotAt d L 1 f)
    ∗ semVal (thr d L, .dma (gsem 0)) 0 ∗ semVal (thr d L, .dma (gsem 1)) 0 ∗ semVal (thr d L, .dma (osem 0)) 0 ∗ semVal (thr d L, .dma (osem 1)) 0
    ∗ Owes d L O W)

omit [FloatOps F] in
/-- The table's share and the copy of the indices, dealt to the two slots. -/
theorem idle_split (fo : S128x100.Idx → Elt F .i32) :
    iprop((xLoc d ↦{xq} tab) ∗ (sLoc d L ↦{fullShare} fo)) = iprop(Idle d L tab fo xq 0 ∗ Idle d L tab fo xq 1) := by
  have hpt (ℓ : Loc nD τ sig) (q : PosShare TreeShare) (f : Buf (Elt F) ℓ) :
      (ℓ ↦{q} f : sProp 𝕄) = iprop((bigSep Finset.univ fun j : Fin 4 => (ℓ ↦{gShare q 0 j} f)) ∗ bigSep Finset.univ fun j : Fin 4 => (ℓ ↦{gShare q 1 j} f)) := by
    rw [pointsTo_piecesOf Finset.univ f (by decide : 0 < 2) q, bigSep_univ_two, pointsTo_piecesOf Finset.univ f (by decide : 0 < 4) (pieceOf q 2 _ 0),
      pointsTo_piecesOf Finset.univ f (by decide : 0 < 4) (pieceOf q 2 _ 1)]
    rfl
  unfold Idle
  rw [bigSep_sep', bigSep_sep', hpt (xLoc d) xq tab, hpt (sLoc d L) fullShare fo]
  have h1 (A B C D : sProp 𝕄) : iprop((A ∗ B) ∗ C ∗ D) ⊢ iprop((A ∗ C) ∗ B ∗ D) := by
    iintro ⟨⟨Ha, Hb⟩, Hc, Hd⟩
    isplitl [Ha Hc]; · isplitl [Ha] <;> iassumption
    isplitl [Hb] <;> iassumption
  exact BI.Entails.antisymm (h1 _ _ _ _) (h1 _ _ _ _)

section Rounds

variable (l : Scf.Loop 32) (hok : l.OK) (cond : Fin l.trips → BitVec 1)
variable (offS : Fin l.trips → Fin 2 → Fin 3 → Nat) (hS : ∀ t b a, offS t b a + S4x100x128.size a ≤ S16384x100x128.size a)
variable (offG : Fin l.trips → Fin 2 → Fin 4 → Fin 2 → Nat) (hG : ∀ t, cond t = 1#1 → ∀ b j a, offG t b j a + S1x100.size a ≤ S128x100.size a)
variable (htrips : l.trips = 16) (hcond : ∀ t, cond t = 1#1 ↔ t.val < 15)
variable (hoffS : ∀ t b, offS t b = ![4 * (blk g (pr (t.cast htrips) b)).val, 0, 0])
variable (hoffG : ∀ t b j, offG t b j = ![8 * t.val + 4 * b.val + j.val + 8, 0])

include htrips hcond hoffS hoffG in
theorem round_spec (O : CellTallies nD τ sig (HIx 1)) (W : Waits sig (HIx 1)) (t : Fin l.trips) :
    Inv d L tab idx out₀ xq hidx g O W t.val
      ⊢ tileWp d L (round L l cond offS hS offG hG t) fun _ => Inv d L tab idx out₀ xq hidx g O W (t.val + 1) := by
  obtain ⟨r, hr⟩ : ∃ r : Fin 16, r = t.cast htrips := ⟨_, rfl⟩
  have hrt : r.val = t.val := congrArg Fin.val hr
  have ht : t.val < 16 := hrt ▸ r.isLt
  have hI : Inv d L tab idx out₀ xq hidx g O W t.val = Running d L tab idx out₀ xq hidx g O W r := by
    unfold Inv; rw [dif_pos ht, hr]; rfl
  rw [hI]
  have hs (b : Fin 2) : offS t b = ![4 * (blk g (pr r b)).val, 0, 0] := hr ▸ hoffS t b
  unfold Running round
  rw [blks_take]
  iintro ⟨#Hmw, HO, H0, H1, Hv0, Hv1, Hb0, Hb1, Hr⟩
  iapply (wp_gatherWaits d L tab (listOf idx g) xq (listOf_in idx hidx g) 0 _) $$ [H0 HO]
  · isplitl [H0]; · iexact H0
    isplitr; · iexact Hmw
    iexact HO
  iintro ⟨Hs0, Hi0, Hg0, HO⟩
  iapply (wp_store d L tab idx out₀ g 0 (pr r 0) (hs 0)) $$ [Hs0 Hb0 Hv0]
  · isplitl [Hs0]; · iexact Hs0
    isplitl [Hb0] <;> iassumption
  iintro HF0
  iapply (wp_gatherWaits d L tab (listOf idx g) xq (listOf_in idx hidx g) 1 _) $$ [H1 HO]
  · isplitl [H1]; · iexact H1
    isplitr; · iexact Hmw
    iexact HO
  iintro ⟨Hs1, Hi1, Hg1, HO⟩
  iapply (wp_store d L tab idx out₀ g 1 (pr r 1) (hs 1)) $$ [Hs1 Hb1 Hv1]
  · isplitl [Hs1]; · iexact Hs1
    isplitl [Hb1] <;> iassumption
  iintro HF1
  by_cases hc : cond t = 1#1
  · have ht' : t.val < 15 := (hcond t).1 hc
    have ht1 : t.val + 1 < 16 := by omega
    rw [dif_pos hc]
    iapply (wp_storeWait d L tab idx g 0 _) $$ [HF0 HO]
    · isplitl [HF0]; · iexact HF0
      isplitr; · iexact Hmw
      iexact HO
    iintro ⟨Hb0, Hs0, Hv0, HO⟩
    iapply (wp_gathers d L tab (listOf idx g) xq (listOf_in idx hidx g) 0 (pr ⟨t.val + 1, ht1⟩ 0) _
      (fun j => (hoffG t 0 j).trans (by congr 1; show 8 * t.val + 4 * 0 + j.val + 8 = 4 * (2 * (t.val + 1) + 0) + j.val; omega))) $$ [Hs0 Hi0 Hg0]
    · isplitl [Hs0]; · iexact Hs0
      isplitl [Hi0] <;> iassumption
    iintro H0
    iapply (wp_storeWait d L tab idx g 1 _) $$ [HF1 HO]
    · isplitl [HF1]; · iexact HF1
      isplitr; · iexact Hmw
      iexact HO
    iintro ⟨Hb1, Hs1, Hv1, HO⟩
    rw [← bind_pure (gathers L 1 (offG t 1) (hG t hc 1))]
    iapply (wp_gathers d L tab (listOf idx g) xq (listOf_in idx hidx g) 1 (pr ⟨t.val + 1, ht1⟩ 1) _
      (fun j => (hoffG t 1 j).trans (by congr 1; show 8 * t.val + 4 * 1 + j.val + 8 = 4 * (2 * (t.val + 1) + 1) + j.val; omega))) $$ [Hs1 Hi1 Hg1]
    · isplitl [Hs1]; · iexact Hs1
      isplitl [Hi1] <;> iassumption
    iintro H1
    iapply (tileWp_pure d L _ _)
    unfold Inv Running
    rw [dif_pos ht1, show 2 * (⟨t.val + 1, ht1⟩ : Fin 16).val = 2 * (r.val + 1) by rw [hrt], ← blks_put]
    isplitr; · iexact Hmw
    isplitl [HO]; · iexact HO
    isplitl [H0]; · iexact H0
    isplitl [H1]; · iexact H1
    isplitl [Hv0]; · iexact Hv0
    isplitl [Hv1]; · iexact Hv1
    isplitl [Hb0]; · iexact Hb0
    isplitl [Hb1] <;> iassumption
  · have ht' : ¬t.val < 15 := fun h => hc ((hcond t).2 h)
    obtain rfl : r = 15 := Fin.ext (by show r.val = 15; omega)
    rw [dif_neg hc]
    iapply (tileWp_pure d L _ _)
    unfold Inv Ended
    rw [dif_neg (show ¬t.val + 1 < 16 by omega)]
    isplitr; · iexact Hmw
    isplitl [HO]; · iexact HO
    isplitl [HF0]; · iexact HF0
    isplitl [HF1]; · iexact HF1
    isplitl [Hg0]; · iexact Hg0
    isplitl [Hg1]; · iexact Hg1
    isplitl [Hi0]; · iexact Hi0
    isplitl [Hi1] <;> iassumption

variable (sem : DmaSem sig) (offF : Fin 2 → Nat) (hF : ∀ a, offF a + S128x100.size a ≤ S16384x100.size a)

include htrips hcond hoffS hoffG hidx in
theorem quarter_spec (hoffF : offF = ![128 * g.val, 0]) (O : CellTallies nD τ sig (HIx 1)) (W : Waits sig (HIx 1)) :
    iprop(Transfers.MayWaits (thr d L) (default : HIx 1) O ∗ TileRes d L tab idx xq iq O W ∗ semVal (thr d L, .dma sem) 0
        ∗ bigSep Finset.univ fun p : Fin 32 => blkAt d out₀ (blk g p))
      ⊢ tileWp d L (quarter L sem offF hF l hok cond offS hS offG hG) fun _ =>
        iprop(TileRes d L tab idx xq iq O W ∗ semVal (thr d L, .dma sem) 0 ∗ bigSep Finset.univ fun p : Fin 32 => blkAt d (outVal tab idx) (blk g p)) := by
  have hstart : (bigSep Finset.univ fun p : Fin 32 => blkAt d out₀ (blk g p)) = (bigSep Finset.univ (Blk d tab idx out₀ g (2 * 0)) : sProp 𝕄) :=
    bigSep_congr fun p _ => (Blk_todo d tab idx out₀ g (Nat.not_lt_zero p.val)).symm
  have hend : (bigSep Finset.univ fun p : Fin 32 => blkAt d (outVal tab idx) (blk g p))
      = (bigSep Finset.univ (Blk d tab idx out₀ g (2 * ((15 : Fin 16).val + 1))) : sProp 𝕄) :=
    bigSep_congr fun p _ => (Blk_done d tab idx out₀ g (show p.val < 32 from p.isLt)).symm
  rw [hstart, hend, ← blks_put]
  unfold TileRes quarter
  iintro ⟨#Hmw, ⟨Hi, Hx, ⟨%f, Hs⟩, ⟨%f0, Hs0⟩, ⟨%f1, Hs1⟩, Hg0, Hg1, Hv0, Hv1, HO⟩, Hv, Hb⟩
  iapply (wp_fetch d L idx iq g sem hoffF f) $$ [Hi Hs Hv HO]
  · isplitl [Hi]; · iexact Hi
    isplitl [Hs]; · iexact Hs
    isplitl [Hv]; · iexact Hv
    isplitr; · iexact Hmw
    iexact HO
  iintro ⟨Hi, Hs, Hv, HO⟩
  ihave HI := (Entails.of_eq (idle_split d L tab xq (listOf idx g))) $$ [Hx Hs]
  · isplitl [Hx] <;> iassumption
  icases HI with ⟨Hi0, Hi1⟩
  iapply (wp_gathers d L tab (listOf idx g) xq (listOf_in idx hidx g) 0 (pr 0 0) f0 (fun _ => rfl)) $$ [Hs0 Hi0 Hg0]
  · isplitl [Hs0]; · iexact Hs0
    isplitl [Hi0] <;> iassumption
  iintro H0
  iapply (wp_gathers d L tab (listOf idx g) xq (listOf_in idx hidx g) 1 (pr 0 1) f1 (fun _ => rfl)) $$ [Hs1 Hi1 Hg1]
  · isplitl [Hs1]; · iexact Hs1
    isplitl [Hi1] <;> iassumption
  iintro H1
  iapply (Scf.wp_for_bind frame _ Set.univ l.lb l.ub l.st hok PUnit.unit _ (fun k _ => Inv d L tab idx out₀ xq hidx g O W k)
    (fun t _ => round_spec d L tab idx out₀ xq hidx g l cond offS hS offG hG htrips hcond hoffS hoffG O W t)) $$ [H0 H1 Hv0 Hv1 Hb HO]
  · unfold Inv Running
    rw [dif_pos (by decide : 0 < 16)]
    isplitr; · iexact Hmw
    isplitl [HO]; · iexact HO
    isplitl [H0]; · iexact H0
    isplitl [H1]; · iexact H1
    isplitl [Hv0]; · iexact Hv0
    isplitl [Hv1]; · iexact Hv1
    iexact Hb
  iintro %acc HI
  have hlast : Inv d L tab idx out₀ xq hidx g O W l.trips = Ended d L tab idx out₀ xq g O W := by
    unfold Inv; rw [dif_neg (by omega)]
  ihave HI := (Entails.of_eq hlast) $$ HI
  unfold Ended
  icases HI with ⟨-, HO, HF0, HF1, Hg0, Hg1, Hi0, Hi1, Hr⟩
  iapply (wp_storeWait d L tab idx g 0 _) $$ [HF0 HO]
  · isplitl [HF0]; · iexact HF0
    isplitr; · iexact Hmw
    iexact HO
  iintro ⟨Hb0, Hs0, Hv0, HO⟩
  rw [← bind_pure (storeWait L 1)]
  iapply (wp_storeWait d L tab idx g 1 _) $$ [HF1 HO]
  · isplitl [HF1]; · iexact HF1
    isplitr; · iexact Hmw
    iexact HO
  iintro ⟨Hb1, Hs1, Hv1, HO⟩
  iapply (tileWp_pure d L _ _)
  ihave HI := (Entails.of_eq (idle_split d L tab xq (listOf idx g)).symm) $$ [Hi0 Hi1]
  · isplitl [Hi0] <;> iassumption
  icases HI with ⟨Hx, Hs⟩
  isplitl [Hi Hx Hs Hs0 Hs1 Hg0 Hg1 Hv0 Hv1 HO]
  · isplitl [Hi]; · iexact Hi
    isplitl [Hx]; · iexact Hx
    isplitl [Hs]; · iexists _; iexact Hs
    isplitl [Hs0]; · iexists _; iexact Hs0
    isplitl [Hs1]; · iexists _; iexact Hs1
    isplitl [Hg0]; · iexact Hg0
    isplitl [Hg1]; · iexact Hg1
    isplitl [Hv0]; · iexact Hv0
    isplitl [Hv1] <;> iassumption
  isplitl [Hv]; · iexact Hv
  isplitl [Hb0]; · iexact Hb0
  isplitl [Hb1] <;> iassumption

end Rounds

end Cert.Proof

end
-- ==== Proof.Tile.lean ====
/-
  A tile's task: the four quarters of its 512 rows, one after another, over the same two slots. From a share of the
  indices and of the table and the tile's 128 blocks of the result, the task ends with those blocks at their table rows,
  the shares back, and its buffers and semaphores as it found them.
-/
module

public import proofs.«01_k».proof.Proof.Quarter

@[expose] public section

noncomputable section

namespace Cert.Proof

open Cert.KernelIdeal Cert.KernelIdeal.Gen
open Idealize.ShloMosaic Idealize.ShloMosaic.Transfers Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The program's SparseCore calls, as the launch runs them. -/
abbrev ΛP : Labels := Pipeline.Sig Λ₀ (Fin 0) fun p => (pcfgs (F := F) p).Adm
abbrev K : SparseCore.Cfg τ sig (ΛP (F := F)) 1 := sc (F := F)

/-! ## A tile's part of the work -/

/-- The tile's SparseCore and its place there. -/
abbrev cL (L : grid0.Coords) : Fin 2 := L 0
abbrev jL (L : grid0.Coords) : Fin 16 := L 1

/-- The group of 128 rows that is quarter `h` of tile `s` of SparseCore `c`. -/
def grp (c : Fin 2) (s : Fin 16) (h : Fin 4) : Fin 128 := ⟨8 * s.val + 4 * c.val + h.val, by omega⟩

/-- The share of the indices and of the table that tile `s` of SparseCore `c` reads with. -/
def tileShare (c : Fin 2) (s : Fin 16) : PosShare TreeShare := pieceOf (pieceOf fullShare 2 (by decide) c) 16 (by decide) s

variable (d : Dev nD) (L : grid0.Coords)
variable (tab : S100000x128.Idx → Elt F .f32) (idx : S16384x100.Idx → Elt F .i32) (out₀ : S16384x100x128.Idx → Elt F .f32)

/-- A tile's blocks of the result at contents `f`, -/
def TileOut (f : S16384x100x128.Idx → Elt F .f32) (c : Fin 2) (s : Fin 16) : sProp 𝕄 :=
  bigSep Finset.univ fun h : Fin 4 => bigSep Finset.univ fun p : Fin 32 => blkAt d f (blk (grp c s h) p)

/-- and all that it is given: they, and its shares of the two arguments. -/
def TilePay (f : S16384x100x128.Idx → Elt F .f32) (c : Fin 2) (s : Fin 16) : sProp 𝕄 :=
  iprop((iLoc d ↦{tileShare c s} idx) ∗ (xLoc d ↦{tileShare c s} tab) ∗ TileOut d f c s)

/-! ## One quarter at the tile's offsets -/

section Quarter

variable [FloatOps F]
variable (xq iq : PosShare TreeShare) (hidx : ∀ i, (idx i).toNat < 100000)

include hidx in
/-- Quarter `h` of the tile, whatever is run after it. -/
theorem quarter_at (h : Fin 4) (O : CellTallies nD τ sig (HIx 1)) (W : Waits sig (HIx 1))
    {sem : DmaSem sig} {offF : Fin 2 → Nat} {hF : ∀ a, offF a + S128x100.size a ≤ S16384x100.size a}
    {l : Scf.Loop 32} {hok : l.OK} {cond : Fin l.trips → BitVec 1}
    {offS : Fin l.trips → Fin 2 → Fin 3 → Nat} {hS : ∀ t b a, offS t b a + S4x100x128.size a ≤ S16384x100x128.size a}
    {offG : Fin l.trips → Fin 2 → Fin 4 → Fin 2 → Nat} {hG : ∀ t, cond t = 1#1 → ∀ b j a, offG t b j a + S1x100.size a ≤ S128x100.size a}
    (htrips : l.trips = 16) (hcond : ∀ t, cond t = 1#1 ↔ t.val < 15)
    (hoffF : offF = ![1024 * (L 1).val + 512 * (L 0).val + 128 * h.val, 0])
    (hoffS : ∀ t b, offS t b = ![1024 * (L 1).val + 512 * (L 0).val + 8 * t.val + 4 * b.val + 128 * h.val, 0, 0])
    (hoffG : ∀ t b j, offG t b j = ![8 * t.val + 4 * b.val + j.val + 8, 0])
    {α : Type} {k : PUnit → TileProg F L α} {Q : α → sProp 𝕄} :
    iprop(Transfers.MayWaits (thr d L) (default : HIx 1) O ∗ TileRes d L tab idx xq iq O W ∗ semVal (thr d L, .dma sem) 0
        ∗ bigSep Finset.univ fun p : Fin 32 => blkAt d out₀ (blk (grp (cL L) (jL L) h) p))
      ⊢ iprop((iprop(TileRes d L tab idx xq iq O W ∗ semVal (thr d L, .dma sem) 0
            ∗ bigSep Finset.univ fun p : Fin 32 => blkAt d (outVal tab idx) (blk (grp (cL L) (jL L) h) p)) -∗ tileWp d L (k ⟨⟩) Q)
          -∗ tileWp d L (quarter L sem offF hF l hok cond offS hS offG hG >>= k) Q) := by
  have eF : offF = ![128 * (grp (cL L) (jL L) h).val, 0] := hoffF.trans (by
    congr 1; show 1024 * (L 1).val + 512 * (L 0).val + 128 * h.val = 128 * (8 * (L 1).val + 4 * (L 0).val + h.val); omega)
  have eS (t : Fin l.trips) (b : Fin 2) : offS t b = ![4 * (blk (grp (cL L) (jL L) h) (pr (t.cast htrips) b)).val, 0, 0] := (hoffS t b).trans (by
    congr 1
    show 1024 * (L 1).val + 512 * (L 0).val + 8 * t.val + 4 * b.val + 128 * h.val
      = 4 * (32 * (8 * (L 1).val + 4 * (L 0).val + h.val) + (2 * t.val + b.val))
    omega)
  have hq := quarter_spec d L tab idx out₀ xq iq hidx (grp (cL L) (jL L) h) l hok cond offS hS offG hG htrips hcond eS hoffG sem offF hF eF O W
  iintro H Hk
  unfold tileWp
  rw [wp_bind]
  iapply (wp_wand frame _ Set.univ) $$ [H]
  · iapply hq $$ H
  iintro %a Hp
  iapply Hk
  iexact Hp

end Quarter

/-! ## The tile's own semaphores and buffers -/

/-- The tile's DMA semaphores: the two slots' gathers', their stores', and the four fetches'. -/
def tsem : Fin 8 → DmaSem sig := ![gsem 0, gsem 1, osem 0, osem 1, cc0_scoped0.sem, cc0_scoped1.sem, cc0_scoped2.sem, cc0_scoped3.sem]

theorem tsem_injective : Function.Injective tsem := by decide

/-- Their cells. -/
def tcell (n : Fin 8) : GSem nD τ sig := (thr d L, .dma (tsem n))

theorem tcell_own (n : Fin 8) : tcell d L n ∈ ownCells (thr d L) :=
  mem_ownCells.mpr ⟨rfl, (show ∀ n : Fin 8, (SemLoc.dma (tsem n) : SemLoc sig).isScoped .scVector = true by decide) n⟩

/-- They are among the tile's own cells: the cells at zero are they and the rest. -/
theorem ownSems0_tile :
    (ownSems0 (thr d L) : sProp 𝕄)
      = iprop((bigSep Finset.univ fun n : Fin 8 => semVal (tcell d L n) 0)
          ∗ bigSep (ownCells (thr d L) \ Finset.univ.image (tcell d L)) fun g => semVal g 0) := by
  unfold SparseCore.Cfg.ownSems0
  rw [SparseCore.bigSep_sdiff_split' (s := ownCells (thr d L)) (t := Finset.univ.image (tcell d L)) (Finset.image_subset_iff.mpr fun n _ => tcell_own d L n),
    SparseCore.bigSep_image_of_injOn (f := tcell d L) fun n _ n' _ e => tsem_injective (SemLoc.dma.inj (Prod.mk.inj e).2)]

/-- Eight things together. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The tile's copy of the indices and its row buffer are among its own buffers: those are they, at some contents, and
    the rest. -/
theorem ownBufs_tile :
    (ownBufs (thr d L) : sProp 𝕄)
      = iprop((∃ f, sLoc d L ↦{fullShare} f) ∗ (∃ f, rLoc d L ↦{fullShare} f)
          ∗ bigSep (((ownRefs (τ := τ) (procV L)).erase ((procV L).devRef cc0_scratch0)).erase ((procV L).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := procV L) (b := (procV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := procV L) (b := (procV L).devRef cc0_scratch1) rfl⟩)]

/-- The row buffer at some contents is its two slots at some. -/
theorem slots_split : (iprop(∃ f, rLoc d L ↦{fullShare} f) : sProp 𝕄) ⊢ iprop((∃ f, slotAt d L 0 f) ∗ ∃ f, slotAt d L 1 f) := by
  iintro ⟨%f, H⟩
  have hs : (rLoc d L ↦{fullShare} f : sProp 𝕄) = iprop(slotAt d L 0 f ∗ slotAt d L 1 f) := by
    rw [← bigSep_univ_two (Φ := fun b : Fin 2 => slotAt d L b f)]
    refine Eq.trans ?_ (pointsTo_biUnion (ℓ := rLoc d L) (q := fullShare) (f := f) Finset.univ (fun b : Fin 2 => (slotM b).view.set) slots_disjoint)
    exact congrArg (fun S => (rLoc d L ↦[S]{fullShare} f : sProp 𝕄)) univ_eq_slots
  ihave H := (Entails.of_eq hs) $$ H
  icases H with ⟨H0, H1⟩
  isplitl [H0]
  · iexists _; iexact H0
  · iexists _; iexact H1

theorem slots_join : iprop((∃ f, slotAt d L 0 f) ∗ ∃ f, slotAt d L 1 f) ⊢ (iprop(∃ f, rLoc d L ↦{fullShare} f) : sProp 𝕄) := by
  iintro ⟨⟨%f0, H0⟩, ⟨%f1, H1⟩⟩
  ihave H := (Entails.of_eq (bigSep_univ_two (Φ := fun b : Fin 2 => (slotAt d L b (![f0, f1] b) : sProp 𝕄))).symm) $$ [H0 H1]
  · isplitl [H0]; · iexact H0
    iexact H1
  ihave H' := (pointsTo_biUnion_join (ℓ := rLoc d L) (q := fullShare) (Val := Elt F) Finset.univ (fun b : Fin 2 => (slotM b).view.set) ![f0, f1] f0 slots_disjoint) $$ H
  icases H' with ⟨%g, -, Hg⟩
  iexists g
  ihave Hg := (Entails.of_eq (congrArg (fun S => (rLoc d L ↦[S]{fullShare} g : sProp 𝕄)) univ_eq_slots).symm) $$ Hg
  iexact Hg

/-! ## The task -/

section Task

variable [FloatOps F]

theorem Owes_intro (O : CellTallies nD τ sig (HIx 1)) (W : Waits sig (HIx 1)) : (owes (thr d L) O W : sProp 𝕄) ⊢ Owes d L O W := by
  unfold Owes
  iintro H
  iexists W
  isplitr
  · ipureintro; exact fun p hp => .inl hp
  iexact H

set_option maxHeartbeats 1000000 in
/-- The task of tile `L`: from its shares and its blocks of the result at `out₀`, its blocks end at their table rows. -/
theorem tile_body (hF : (K (F := F)).Facts) (hidx : ∀ i, (idx i).toNat < 100000) (O : CellTallies nD τ sig (HIx 1)) (W : Waits sig (HIx 1)) (hO : ∀ g, O g none = 0) :
    iprop(levAts (K (F := F)).L (K (F := F)).lev ∗ emp ∗ TilePay d tab idx out₀ (cL L) (jL L)
        ∗ scopedBufs (thr d L) ∗ scopedSems0 (thr d L) ∗ owes (thr d L) O W)
      ⊢ tileWp d L (kernelProg L) fun _ => iprop(TilePay d tab idx (outVal tab idx) (cL L) (jL L)
            ∗ scopedBufs (thr d L) ∗ scopedSems0 (thr d L)
            ∗ ∃ W', ⌜∀ p ∈ W', p ∈ W ∨ p.2 = none⌝ ∗ owes (thr d L) O W') := by
  rw [kernel_eq, (K (F := F)).scopedBufs_V hF d ((L 0).castLE hcore0) ((L 1).castLE hsub0),
    SparseCore.Cfg.scopedSems0_V (Val := Elt F) d ((L 0).castLE hcore0) ((L 1).castLE hsub0), ownSems0_tile, ownBufs_tile]
  unfold TilePay TileOut
  rw [four (fun h => bigSep Finset.univ fun p : Fin 32 => blkAt d out₀ (blk (grp (cL L) (jL L) h) p)),
    four (fun h => bigSep Finset.univ fun p : Fin 32 => blkAt d (outVal tab idx) (blk (grp (cL L) (jL L) h) p)), eight]
  iintro ⟨#Hlv, -, ⟨Hi, Hx, Hb0, Hb1, Hb2, Hb3⟩, ⟨Hs, Hr, Hbufs⟩, ⟨⟨Hg0, Hg1, Ho0, Ho1, Hf0, Hf1, Hf2, Hf3⟩, Hsems⟩, HO⟩
  ihave Hmw := (show levAts (K (F := F)).L (K (F := F)).lev ⊢ Transfers.MayWaits (thr d L) (default : HIx 1) O from
    (K (F := F)).mayWaits_none (thr := thr d L) hO) $$ Hlv
  icases Hmw with #Hmw
  ihave Hr := (slots_split d L) $$ Hr
  icases Hr with ⟨Hr0, Hr1⟩
  ihave HO := (Owes_intro d L O W) $$ HO
  ihave HT : iprop(TileRes d L tab idx (tileShare (cL L) (jL L)) (tileShare (cL L) (jL L)) O W) $$ [Hi Hx Hs Hr0 Hr1 Hg0 Hg1 Ho0 Ho1 HO]
  · unfold TileRes
    isplitl [Hi]; · iexact Hi
    isplitl [Hx]; · iexact Hx
    isplitl [Hs]; · iexact Hs
    isplitl [Hr0]; · iexact Hr0
    isplitl [Hr1]; · iexact Hr1
    isplitl [Hg0]; · iexact Hg0
    isplitl [Hg1]; · iexact Hg1
    isplitl [Ho0]; · iexact Ho0
    isplitl [Ho1]; · iexact Ho1
    iexact HO
  iapply (quarter_at d L tab idx out₀ _ _ hidx 0 O W (show k0_t1_loop.trips = 16 by decide +kernel) (by decide +kernel)
    (k0_off1_eq L 0) (fun t b => k0_off3_eq L t b) (fun t b j => k0_off4_eq t b j)) $$ [HT Hf0 Hb0]
  · isplitr; · iexact Hmw
    isplitl [HT]; · iexact HT
    isplitl [Hf0]; · iexact Hf0
    iexact Hb0
  iintro ⟨HT, Hf0, Hb0⟩
  iapply (quarter_at d L tab idx out₀ _ _ hidx 1 O W (show k0_t2_loop.trips = 16 by decide +kernel) (by decide +kernel)
    (k0_off1_eq L 1) (fun t b => k0_off6_eq L t b) (fun t b j => k0_off7_eq t b j)) $$ [HT Hf1 Hb1]
  · isplitr; · iexact Hmw
    isplitl [HT]; · iexact HT
    isplitl [Hf1]; · iexact Hf1
    iexact Hb1
  iintro ⟨HT, Hf1, Hb1⟩
  iapply (quarter_at d L tab idx out₀ _ _ hidx 2 O W (show k0_t3_loop.trips = 16 by decide +kernel) (by decide +kernel)
    (k0_off1_eq L 2) (fun t b => k0_off9_eq L t b) (fun t b j => k0_off10_eq t b j)) $$ [HT Hf2 Hb2]
  · isplitr; · iexact Hmw
    isplitl [HT]; · iexact HT
    isplitl [Hf2]; · iexact Hf2
    iexact Hb2
  iintro ⟨HT, Hf2, Hb2⟩
  rw [← bind_pure (quarter4 L)]
  iapply (quarter_at d L tab idx out₀ _ _ hidx 3 O W (show k0_t4_loop.trips = 16 by decide +kernel) (by decide +kernel)
    (k0_off1_eq L 3) (fun t b => k0_off12_eq L t b) (fun t b j => k0_off13_eq t b j)) $$ [HT Hf3 Hb3]
  · isplitr; · iexact Hmw
    isplitl [HT]; · iexact HT
    isplitl [Hf3]; · iexact Hf3
    iexact Hb3
  iintro ⟨HT, Hf3, Hb3⟩
  iapply (tileWp_pure d L _ _)
  unfold TileRes
  icases HT with ⟨Hi, Hx, Hs, Hr0, Hr1, Hg0, Hg1, Ho0, Ho1, HO⟩
  isplitl [Hi Hx Hb0 Hb1 Hb2 Hb3]
  · isplitl [Hi]; · iexact Hi
    isplitl [Hx]; · iexact Hx
    isplitl [Hb0]; · iexact Hb0
    isplitl [Hb1]; · iexact Hb1
    isplitl [Hb2] <;> iassumption
  isplitl [Hs Hr0 Hr1 Hbufs]
  · isplitl [Hs]; · iexact Hs
    isplitl [Hr0 Hr1]
    · iapply (slots_join d L)
      isplitl [Hr0] <;> iassumption
    iexact Hbufs
  isplitl [Hg0 Hg1 Ho0 Ho1 Hf0 Hf1 Hf2 Hf3 Hsems]
  · isplitr [Hsems]
    · isplitl [Hg0]; · iexact Hg0
      isplitl [Hg1]; · iexact Hg1
      isplitl [Ho0]; · iexact Ho0
      isplitl [Ho1]; · iexact Ho1
      isplitl [Hf0]; · iexact Hf0
      isplitl [Hf1]; · iexact Hf1
      isplitl [Hf2]; · iexact Hf2
      iexact Hf3
    iexact Hsems
  iapply (Owes_elim d L O W) $$ HO

end Task

end Cert.Proof

end
-- ==== Proof.Launch.lean ====
/-
  The launch: the two arguments dealt as shares and the result dealt in blocks to the thirty-two tiles, every tile's task
  run, and all of it joined again. `run_main` says of the whole program that it terminates without fault, leaves its
  arguments and every semaphore counter as they were, and that the result's rows are the table rows their indices name.
-/
module

public import proofs.«01_k».proof.Defs
public import proofs.«01_k».proof.Proof.Tile
public import proofs.«01_k».proof.Proof.Gen.Kernel
public import proofs.«01_k».proof.Proof.Gen.Pre_in_rows

@[expose] public section

noncomputable section

namespace Cert.Proof

open Cert.KernelIdeal Cert.KernelIdeal.Gen
open Idealize.ShloMosaic Idealize.ShloMosaic.Transfers Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The deal -/

/-- The result's blocks, as tile, quarter and block of the quarter. -/
def blkOf (x : ((Fin 2 × Fin 16) × Fin 4) × Fin 32) : Fin 4096 := blk (grp x.1.1.1 x.1.1.2 x.1.2) x.2

theorem blkOf_injective : Function.Injective blkOf := by
  rintro ⟨⟨⟨c, s⟩, h⟩, p⟩ ⟨⟨⟨c', s'⟩, h'⟩, p'⟩ e
  have e : 32 * (8 * s.val + 4 * c.val + h.val) + p.val = 32 * (8 * s'.val + 4 * c'.val + h'.val) + p'.val := congrArg Fin.val e
  obtain rfl : c = c' := Fin.ext (by omega)
  obtain rfl : s = s' := Fin.ext (by omega)
  obtain rfl : h = h' := Fin.ext (by omega)
  obtain rfl : p = p' := Fin.ext (by omega)
  rfl

/-- Every block is one tile's, once. -/
def blkEquiv : ((Fin 2 × Fin 16) × Fin 4) × Fin 32 ≃ Fin 4096 :=
  Equiv.ofBijective blkOf ((Fintype.bijective_iff_injective_and_card blkOf).mpr ⟨blkOf_injective, by simp [Fintype.card_prod]⟩)

variable (d : Dev nD) (tab : S100000x128.Idx → Elt F .f32) (idx : S16384x100.Idx → Elt F .i32)

theorem out_deal (f : S16384x100x128.Idx → Elt F .f32) :
    (oLoc d ↦{fullShare} f : sProp 𝕄) = bigSep Finset.univ fun c : Fin 2 => bigSep Finset.univ fun s : Fin 16 => TileOut d f c s := by
  have h1 : (oLoc d ↦{fullShare} f : sProp 𝕄) = bigSep Finset.univ fun q : Fin 4096 => blkAt d f q :=
    (congrArg (fun S => (oLoc d ↦[S]{fullShare} f : sProp 𝕄)) univ_eq_blks).trans
      (pointsTo_biUnion (ℓ := oLoc d) (q := fullShare) (f := f) Finset.univ blkSet blks_disjoint)
  rw [h1, bigSep_univ_equiv blkEquiv, bigSep_univ_prod, bigSep_univ_prod, bigSep_univ_prod]
  rfl

/-- A whole array at the full share is the tiles' shares of it. -/
theorem share_deal {ℓ : Loc nD τ sig} (f : Buf (Elt F) ℓ) :
    (ℓ ↦{fullShare} f : sProp 𝕄) = bigSep Finset.univ fun c : Fin 2 => bigSep Finset.univ fun s : Fin 16 => (ℓ ↦{tileShare c s} f) := by
  rw [pointsTo_piecesOf Finset.univ f (by decide : 0 < 2) fullShare]
  exact bigSep_congr fun c _ => pointsTo_piecesOf Finset.univ f (by decide : 0 < 16) _

/-- The arguments and the result are what the tiles are given, together. -/
theorem deal (f : S16384x100x128.Idx → Elt F .f32) :
    iprop((iLoc d ↦{fullShare} idx) ∗ (xLoc d ↦{fullShare} tab) ∗ (oLoc d ↦{fullShare} f))
      = (bigSep Finset.univ fun c : Fin 2 => bigSep Finset.univ fun s : Fin 16 => TilePay d tab idx f c s : sProp 𝕄) := by
  unfold TilePay
  simp only [bigSep_sep']
  rw [out_deal d f, share_deal (ℓ := iLoc d) idx, share_deal (ℓ := xLoc d) tab]

/-! ## What the handshakes carry -/

variable (m : (ℓ : Loc nD τ sig) → Buf (Elt F) ℓ) (ρ : Dev nD → PrngReg)

/-- The result the program computes from the launch memory. -/
abbrev outAt (d : Dev nD) : S16384x100x128.Idx → Elt F .f32 := outVal (m (xLoc d)) (m (iLoc d))

/-- Tile `s` of SparseCore `c`'s part, before its task and after it; -/
@[irreducible] def tGive (d : Dev nD) (c : Fin 2) (s : Fin 16) : sProp 𝕄 := TilePay d (m (xLoc d)) (m (iLoc d)) (m (oLoc d)) c s
@[irreducible] def tBack (d : Dev nD) (c : Fin 2) (s : Fin 16) : sProp 𝕄 := TilePay d (m (xLoc d)) (m (iLoc d)) (outAt m d) c s
/-- and the whole SparseCore's. -/
@[irreducible] def cGive (d : Dev nD) (c : Fin 2) : sProp 𝕄 := bigSep Finset.univ fun s : Fin 16 => tGive m d c s
@[irreducible] def cBack (d : Dev nD) (c : Fin 2) : sProp 𝕄 := bigSep Finset.univ fun s : Fin 16 => tBack m d c s

instance TileOut_storable (f : S16384x100x128.Idx → Elt F .f32) (c : Fin 2) (s : Fin 16) : BI.Storable (upEmb : UEmb _ 𝕄) (TileOut d f c s) := by
  unfold TileOut; infer_instance
instance TilePay_storable (f : S16384x100x128.Idx → Elt F .f32) (c : Fin 2) (s : Fin 16) : BI.Storable (upEmb : UEmb _ 𝕄) (TilePay d tab idx f c s) := by
  unfold TilePay; infer_instance
instance tGive_storable (c : Fin 2) (s : Fin 16) : BI.Storable (upEmb : UEmb _ 𝕄) (tGive m d c s) := by unfold tGive; infer_instance
instance tBack_storable (c : Fin 2) (s : Fin 16) : BI.Storable (upEmb : UEmb _ 𝕄) (tBack m d c s) := by unfold tBack; infer_instance
instance cGive_storable (c : Fin 2) : BI.Storable (upEmb : UEmb _ 𝕄) (cGive m d c) := by unfold cGive; infer_instance
instance cBack_storable (c : Fin 2) : BI.Storable (upEmb : UEmb _ 𝕄) (cBack m d c) := by unfold cBack; infer_instance

/-- A SparseCore is given its tiles' parts with the result as launched, and hands them back with it computed. -/
def P : (K (F := F)).Pay (nD := nD) (Val := Elt F) (Name := ℕ) (U := UU) where
  st := fun q d c => match q with | 0 => cGive m d (Fin.cast nCore_zero c)
  dn := fun q d c => match q with | 0 => cBack m d (Fin.cast nCore_zero c)
  go := fun q d c i => match q with | 0 => tGive m d (Fin.cast nCore_zero c) (Fin.cast nSub_zero i)
  td := fun q d c i => match q with | 0 => tBack m d (Fin.cast nCore_zero c) (Fin.cast nSub_zero i)
  x := fun _ _ => iprop(emp)

instance P_storable : (P (F := F) m).IsStorable where
  st q d c := match q with | 0 => cGive_storable d m (Fin.cast nCore_zero c)
  dn q d c := match q with | 0 => cBack_storable d m (Fin.cast nCore_zero c)
  go q d c i := match q with | 0 => tGive_storable d m (Fin.cast nCore_zero c) (Fin.cast nSub_zero i)
  td q d c i := match q with | 0 => tBack_storable d m (Fin.cast nCore_zero c) (Fin.cast nSub_zero i)

/-- What is asked of the launch memory: every word of the indices names a row of the table. -/
def PreOK : Prop := ∀ (d : Dev nD) (j : S16384x100.Idx), (m (iLoc d) j).toNat < 100000

theorem big_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem big_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show cGive m d (Fin.cast nCore_zero c) ⊢ |={Set.univ}=> iprop(
      (bigSep Finset.univ fun i : Fin ((K (F := F)).nSub 0) => tGive m d (Fin.cast nCore_zero c) (Fin.cast nSub_zero i))
      ∗ ((bigSep Finset.univ fun i : Fin ((K (F := F)).nSub 0) => tBack m d (Fin.cast nCore_zero c) (Fin.cast nSub_zero i))
          -∗ cBack m d (Fin.cast nCore_zero c)))
  rw [big_subs (tGive m d (Fin.cast nCore_zero c)), big_subs (tBack m d (Fin.cast nCore_zero c))]
  unfold cGive cBack
  iintro H; imodintro
  isplitl [H]; · iexact H
  iintro H; iexact H

/-! ## The tile's obligation -/

section Program

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kernelProg (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m).go 0 d c i = TilePay d (m (xLoc d)) (m (iLoc d)) (m (oLoc d)) (cL (coordsV ⟨_, hci.1⟩ ⟨_, hci.2⟩)) (jL (coordsV ⟨_, hci.1⟩ ⟨_, hci.2⟩)) := by
    show tGive m d (Fin.cast nCore_zero c) (Fin.cast nSub_zero i) = _
    unfold tGive; rfl
  have htd : (P m).td 0 d c i = TilePay d (m (xLoc d)) (m (iLoc d)) (outAt m d) (cL (coordsV ⟨_, hci.1⟩ ⟨_, hci.2⟩)) (jL (coordsV ⟨_, hci.1⟩ ⟨_, hci.2⟩)) := by
    show tBack m d (Fin.cast nCore_zero c) (Fin.cast nSub_zero i) = _
    unfold tBack; rfl
  rw [hgo, htd]
  exact (tile_body d (coordsV ⟨_, hci.1⟩ ⟨_, hci.2⟩) (m (xLoc d)) (m (iLoc d)) (m (oLoc d)) launchFacts (hpre d) O W hO).trans
    (wp_mono frame _ _ fun _ => obl_post)

/-! ## The launch's ghost state -/

theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host's program -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The arguments as launched, the result at `f`. -/
abbrev arrays (d : Dev nD) (f : S16384x100x128.Idx → Elt F .f32) : sProp 𝕄 :=
  iprop((iLoc d ↦{fullShare} m (iLoc d)) ∗ (xLoc d ↦{fullShare} m (xLoc d)) ∗ (oLoc d ↦{fullShare} f))

theorem st0_eq (d : Dev nD) : (bigSep Finset.univ fun c : Fin ((K (F := F)).nCore 0) => (P m).st 0 d c) = arrays m d (m (oLoc d)) :=
  by
  refine (big_cores (cGive m d)).trans ?_
  unfold cGive tGive
  exact (deal d (m (xLoc d)) (m (iLoc d)) (m (oLoc d))).symm
theorem dn0_eq (d : Dev nD) : (bigSep Finset.univ fun c : Fin ((K (F := F)).nCore 0) => (P m).dn 0 d c) = arrays m d (outAt m d) :=
  by
  refine (big_cores (cBack m d)).trans ?_
  unfold cBack tBack
  exact (deal d (m (xLoc d)) (m (iLoc d)) (outAt m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (outAt m d) ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st0_eq]; iexact Ha
  iintro ⟨Hst, Hdn⟩
  ihave Ha := (Entails.of_eq (dn0_eq m d)) $$ Hdn
  imodintro
  isplitl [Hst]; · iexact Hst
  isplitl [Ha]; · iexact Ha
  isplitl [Hb] <;> iassumption

/-! ## The run -/

/-- What device `d`'s memory holds at the end. -/
def fq (d : Dev nD) (s' : Phys nD τ sig (Elt F)) : Prop :=
  s'.mem.mem (iLoc d) = m (iLoc d) ∧ s'.mem.mem (xLoc d) = m (xLoc d) ∧ s'.mem.mem (oLoc d) = outAt m d

set_option maxRecDepth 16384 in
theorem hfin (d : Dev nD) (s' : Phys nD τ sig (Elt F)) : iprop(arrays m d (outAt m d) ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outAt m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The end of the run: arguments as launched, the result computed, every semaphore counter at zero. -/
def QC : PUnit × MemSt nD τ sig (Elt F) → Prop := fun r =>
  (∀ c : Dev nD, r.2.mem (iLoc c) = m (iLoc c) ∧ r.2.mem (xLoc c) = m (xLoc c) ∧ r.2.mem (oLoc c) = outAt m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => arrays m d (outAt m d)) (u₀ (F := F)) (sep_elim_left.trans (hu₀ m)) (hmain m ρ) (fq m) (hfin m) (QC m)
    (fun _ h hz => ⟨h, hz⟩)

end Program

end Cert.Proof

end
-- ==== Proof.Reference.lean ====
/-
  What the reference computes, and what the precondition says. Under the precondition every index word is the number of a
  row of the table (`rows_of_pre`). The reference wraps a negative index, masks a row that is not in the table and gathers at
  the wrapped index; with all indices in the table nothing wraps, the mask is all ones, and its result is the table row that
  each index names (`refVal_eq`).
-/
module

public import proofs.«01_k».proof.Proof.Launch
public import proofs.«01_k».proof.Proof.Gen.ReferenceIdeal.Run
public import Idealize.ShloMosaic.Lib.ReduceAll
public import Idealize.ShloMosaic.Lib.StableHlo.Predicate

@[expose] public section

noncomputable section

namespace Cert.Proof

open Cert.ReferenceIdeal Cert.ReferenceIdeal.Gen
open Idealize.ShloMosaic Idealize.ShloMosaic.ValueIdx
open Idealize.ShloMosaic.StableHlo.Predicate

variable {F : FTy → Type} [FloatOps F]

/-! ## The precondition -/

/-- A word between zero and a hundred thousand as a signed number is below a hundred thousand as a natural number. -/
theorem toNat_lt_of_signed {w : BitVec 32} (h0 : IntOp.cmpi .sge w 0#32 = 1#1) (h1 : IntOp.cmpi .slt w 100000#32 = 1#1) :
    w.toNat < 100000 := by
  simp only [IntOp.cmpi, ofBool_eq_one_iff, BitVec.sle_eq_decide, BitVec.slt_eq_decide, decide_eq_true_eq,
    BitVec.toInt_eq_toNat_cond, BitVec.toNat_ofNat, Nat.reducePow, Nat.reduceMod] at h0 h1
  omega

/-- The precondition: every index is the number of a row. -/
theorem rows_of_pre (idx : IVec S16384x100 32) (tab : FVec F S100000x128 .f32)
    (h : Cert.Pre_in_rows.fn (F := F) idx tab = fun _ => 1#1) (j : S16384x100.Idx) : (idx j).toNat < 100000 := by
  have : Subsingleton Cert.Pre_in_rows.S_.Idx := ⟨fun a b => funext fun x => x.elim0⟩
  have e := Host.reduce_andi_all _ _ _ _ (fun x => x.elim0) (congrFun h fun x => x.elim0) j
  exact toNat_lt_of_signed (IntOp.andi_eq_one.1 e).1 (IntOp.andi_eq_one.1 e).2

/-! ## The reference's value -/

/-- The indices as the reference gathers at them: a negative one a hundred thousand higher, with a last axis of one. -/
def startIdx (idx : IVec S16384x100 32) : IVec S16384x100x1 32 :=
  broadcastInDim S16384x100x1 ![0, 1] Facts₀.bcast_S16384x100_S16384x100x1_0_1
    (select (cmpi .slt idx (broadcastInDim S16384x100 ![] Facts₀.bcast_S_S16384x100 (constantI S_ 32 0#32)))
      (addi idx (broadcastInDim S16384x100 ![] Facts₀.bcast_S_S16384x100 (constantI S_ 32 100000#32))) idx)

/-- The reference's mask: which indices name a row. -/
def inTable (idx : IVec S16384x100 32) : IVec S16384x100 1 :=
  Host.reduce IntOp.andi
    (andi (cmpi .sge (startIdx idx) (broadcastInDim S16384x100x1 ![] Facts₀.bcast_S_S16384x100x1 (constantI S_ 32 0#32)))
      (cmpi .sle (startIdx idx) (broadcastInDim S16384x100x1 ![0, 1, 2] Facts₀.bcast_S1x1x1_S16384x100x1_0_1_2
        (broadcastInDim S1x1x1 ![2] Facts₀.bcast_S1_S1x1x1_2 (constantI S1 32 99999#32)))))
    (constantI S_ 1 1#1) Facts₀.reducesTo_S16384x100x1_S16384x100_d2 Facts₀.h_S_

/-- The reference's result: the gathered rows where the index names one, and not-a-number elsewhere. -/
def refVal (idx : IVec S16384x100 32) (tab : FVec F S100000x128 .f32) : FVec F S16384x100x128 .f32 :=
  select (broadcastInDim S16384x100x128 ![0, 1] Facts₀.bcast_S16384x100_S16384x100x128_0_1 (inTable idx))
    (Host.gather gather_S100000x128_S16384x100x1_S16384x100x128_2_0_n_n_0_2_1128 tab (startIdx idx))
    (broadcastInDim S16384x100x128 ![] Facts₀.bcast_S_S16384x100x128 (constant S_ .f32 0x7FC00000#32))

section
variable (idx : IVec S16384x100 32) (hidx : ∀ j, (idx j).toNat < 100000)
include hidx

/-- No index is negative, so the wrapped indices are the indices. -/
theorem startIdx_eq (k : S16384x100x1.Idx) : startIdx idx k = idx (ix2 (k 0) (k 1)) := by
  have hb : ∀ j, select (cmpi .slt idx (broadcastInDim S16384x100 ![] Facts₀.bcast_S_S16384x100 (constantI S_ 32 0#32)))
      (addi idx (broadcastInDim S16384x100 ![] Facts₀.bcast_S_S16384x100 (constantI S_ 32 100000#32))) idx j = idx j := by
    intro j
    have hn : ¬ IntOp.cmpi .slt (idx j) 0#32 = 1#1 := by
      rw [slt_iff_toNat (by have := hidx j; omega) (by decide)]
      exact Nat.not_lt_zero _
    show Scalar.select (IntOp.cmpi .slt (idx j) 0#32) _ (idx j) = idx j
    rw [eq_zero_of_ne_one hn]
    rfl
  refine (hb _).trans (congrArg idx ?_)
  funext a
  match a with
  | ⟨0, _⟩ => exact Fin.ext rfl
  | ⟨1, _⟩ => exact Fin.ext rfl

/-- Every index names a row: the mask is all ones. -/
theorem inTable_eq (j : S16384x100.Idx) : inTable idx j = 1#1 := by
  refine Host.reduce_andi_one _ _ _ _ _ rfl fun k => ?_
  have hk := hidx (ix2 (k 0) (k 1))
  refine IntOp.andi_eq_one.2 ⟨?_, ?_⟩
  · show IntOp.cmpi .sge (startIdx idx k) 0#32 = 1#1
    rw [startIdx_eq idx hidx, sge_iff_toNat (by omega) (by decide)]
    exact Nat.zero_le _
  · show IntOp.cmpi .sle (startIdx idx k) 99999#32 = 1#1
    rw [startIdx_eq idx hidx, sle_iff_toNat (by omega) (by decide)]
    exact Nat.le_of_lt_succ hk

/-- The gather, read at one element: the row is the start index's, the column the element's own. -/
theorem gather_eq (tab : FVec F S100000x128 .f32) (i : S16384x100x128.Idx) :
    Host.gather gather_S100000x128_S16384x100x1_S16384x100x128_2_0_n_n_0_2_1128 tab (startIdx idx) i = outVal tab idx i := by
  have hi := hidx (ix2 (i 0) (i 1))
  unfold Host.gather outVal
  congr 1
  funext a
  refine Fin.ext ?_
  let d := gather_S100000x128_S16384x100x1_S16384x100x128_2_0_n_n_0_2_1128
  show d.start i (startIdx idx) a + d.batchCoord i a + d.offCoord i a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    rw [startIdx_eq idx hidx]
    show min (idx (ix2 (i 0) (i 1))).toInt.toNat (100000 - 1) = (rowNo (idx (ix2 (i 0) (i 1)))).val
    rw [toInt_eq_toNat_of_lt (by omega), rowNo_val hi]
    omega
  · rw [GatherDims.batchCoord_eq_zero _ _ _ List.not_mem_nil]
    unfold GatherDims.start
    rw [dif_neg (show ¬ (1 : Fin 2) ∈ d.startIndexMap from by decide)]
    simp only [Nat.zero_add]
    rfl

/-- With every index in the table the reference's result is the rows that the indices name. -/
theorem refVal_eq (tab : FVec F S100000x128 .f32) : refVal idx tab = outVal tab idx := by
  funext i
  have hm : broadcastInDim S16384x100x128 ![0, 1] Facts₀.bcast_S16384x100_S16384x100x128_0_1 (inTable idx) i = 1#1 :=
    inTable_eq idx hidx _
  unfold refVal
  rw [select_apply, hm, select_one, gather_eq idx hidx]

end

end Cert.Proof
-- ==== Proof.lean ====
/-
  The proof of `Cert.Claim` (proofs.«01_k».proof.Defs). The kernel gathers, for each index, the row of the table that the
  index names; thirty-two tiles share the indices, and each streams its rows through two buffers of its vector memory.

  Proof/GatherBatch.lean, Proof/Program.lean, Proof/Geometry.lean, Proof/Slot.lean, Proof/Quarter.lean and Proof/Tile.lean
  prove one tile's task, from one buffer's round up; Proof/Launch.lean runs all tiles (`run_main`), at any float type;
  Proof/Reference.lean reads the precondition and computes the reference's result. Here the claims are read off them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_rows
public import proofs.«01_k».proof.Proof.Launch
public import proofs.«01_k».proof.Proof.Reference

@[expose] public section

noncomputable section

namespace Cert.Proof

open Idealize.ShloMosaic Idealize.SL.Sem

/-- The idealized kernel terminates without fault, with its arguments and every semaphore counter as they were. -/
theorem frame_kernelIdeal : Cert.quiescent_KernelIdeal := fun m ρ hpre =>
  (θ_run (Cert.KernelIdeal.defs (F := Ideal)) _ _).mono (fun _ h => ⟨fun c => ⟨(h.1 c).1, (h.1 c).2.1⟩, h.2⟩)
    (run_main (F := Ideal) m ρ fun d => rows_of_pre _ _ (hpre d))

/-- The kernel as printed does so too: its text is the idealized one's, and the run holds at any float type. -/
theorem frame_kernel : Cert.quiescent_Kernel := fun m ρ hpre =>
  (θ_run (Cert.Kernel.defs (F := Bits)) _ _).mono (fun _ h => ⟨fun c => ⟨(h.1 c).1, (h.1 c).2.1⟩, h.2⟩)
    (run_main (F := Bits) m ρ fun d => rows_of_pre _ _ (hpre d))

/-- The reference terminates without fault with its arguments as they were; it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The kernel's result is the reference's: both are the table's rows that the indices name. -/
theorem algebraic : Cert.algebraic_KernelIdeal_ReferenceIdeal := by
  intro m ρ m' ρ' hpre hagree
  have hrows : PreOK m := fun d => rows_of_pre _ _ (hpre d)
  refine ⟨fun c => outAt m c, (θ_run (Cert.KernelIdeal.defs (F := Ideal)) _ _).mono
    (fun _ h c => ⟨(h.1 c).2.2, (h.1 c).1, (h.1 c).2.1⟩) (run_main (F := Ideal) m ρ hrows), ?_⟩
  refine (θ_run (Cert.ReferenceIdeal.defs (F := Ideal)) _ _).mono (fun _ h c => ⟨(h c).1.trans ?_, (h c).2⟩)
    (Cert.ReferenceIdeal.Value.run (F := Ideal) m' ρ')
  rw [(hagree c).1, (hagree c).2]
  exact refVal_eq (F := Ideal) (m (iLoc c)) (hrows c) (m (xLoc c))

theorem claim : Cert.Claim :=
  ⟨Cert.Kernel.Gen.facts, Cert.KernelIdeal.Gen.facts, Cert.ReferenceIdeal.Gen.facts, Cert.Pre_in_rows.Gen.facts,
    frame_kernel, frame_kernelIdeal, frame_reference, fun m ρ _ => frame_reference m ρ trivial, trivial, algebraic⟩

end Cert.Proof

end
